-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_masks_in_order [hPre_masks_in_order : Cert.Pre_masks_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_masks_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_masks_in_order [hPre_masks_in_order : Cert.Pre_masks_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_masks_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_masks_in_order [hKernelIdeal : Cert.KernelIdeal.Facts] [hPre_masks_in_order : Cert.Pre_masks_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_masks_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_masks_in_order [hReferenceIdeal : Cert.ReferenceIdeal.Facts] [hPre_masks_in_order : Cert.Pre_masks_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_masks_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_masks_in_order [hKernelIdeal : Cert.KernelIdeal.Facts] [hReferenceIdeal : Cert.ReferenceIdeal.Facts] [hPre_masks_in_order : Cert.Pre_masks_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_masks_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v269) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_masks_in_order : Cert.Pre_masks_in_order.Facts),
    quiescent_Kernel (hKernel := hKernel)
    ∧ quiescent_KernelIdeal (hKernelIdeal := hKernelIdeal)
    ∧ quiescent_KernelIdeal_pre_masks_in_order (hKernelIdeal := hKernelIdeal) (hPre_masks_in_order := hPre_masks_in_order)
    ∧ quiescent_ReferenceIdeal (hReferenceIdeal := hReferenceIdeal)
    ∧ quiescent_ReferenceIdeal_pre_masks_in_order (hReferenceIdeal := hReferenceIdeal) (hPre_masks_in_order := hPre_masks_in_order)
    ∧ preserves_Kernel_KernelIdeal
    ∧ algebraic_KernelIdeal_ReferenceIdeal_pre_masks_in_order (hKernelIdeal := hKernelIdeal) (hReferenceIdeal := hReferenceIdeal) (hPre_masks_in_order := hPre_masks_in_order)
-- ==== Pre_masks_in_order.lean ====
abbrev S1x2048x1024 : Shape := ⟨3, ![1, 2048, 1024]⟩
abbrev S2x1024 : Shape := ⟨2, ![2, 1024]⟩
abbrev S2x4096x1024 : Shape := ⟨3, ![2, 4096, 1024]⟩
abbrev S2048x4 : Shape := ⟨2, ![2048, 4]⟩
abbrev S2048 : Shape := ⟨1, ![2048]⟩
abbrev S2x96x2048 : Shape := ⟨3, ![2, 96, 2048]⟩
abbrev S2x2048x64 : Shape := ⟨3, ![2, 2048, 64]⟩
abbrev S2x2048 : Shape := ⟨2, ![2, 2048]⟩
abbrev S2048x16 : Shape := ⟨2, ![2048, 16]⟩
abbrev S2x1024x2048 : Shape := ⟨3, ![2, 1024, 2048]⟩
abbrev S_ : Shape := ⟨0, ![]⟩

class Facts : Prop where
  bcast_S_S2x1024 : S_.BroadcastsInDim S2x1024 (![] : Fin 0 → Fin S2x1024.rank)

variable [Facts]

def fn {F : FTy → Type} [FloatOps F] (main_arg0 : FVec F S1x2048x1024 .f32) (main_arg1 : IVec S2x1024 32) (main_arg2 : FVec F S2x4096x1024 .f32) (main_arg3 : FVec F S2048x4 .f32) (main_arg4 : FVec F S2048 .f32) (main_arg5 : FVec F S2x96x2048 .f32) (main_arg6 : FVec F S2x2048x64 .f32) (main_arg7 : FVec F S2x2048 .f32) (main_arg8 : FVec F S2048x16 .f32) (main_arg9 : FVec F S2048 .f32) (main_arg10 : FVec F S2x1024x2048 .f32) : IVec S2x1024 1 :=
  let main_v0 : IVec S2x1024 32 := iotaInDim S2x1024 32 0
  let main_c : IVec S_ 32 := constantI S_ 32 1024#32
  let main_v1 : IVec S2x1024 32 := broadcastInDim S2x1024 ![] bcast_S_S2x1024 main_c
  let main_v2 : IVec S2x1024 32 := muli main_v0 main_v1
  let main_v3 : IVec S2x1024 32 := iotaInDim S2x1024 32 1
  let main_v4 : IVec S2x1024 32 := addi main_v2 main_v3
  let main_v5 : IVec S2x1024 1 := cmpi .eq main_arg1 main_v4
  main_v5
-- ==== Kernel.lean ====
abbrev S1x2048x1024 : Shape := ⟨3, ![1, 2048, 1024]⟩
abbrev S2x1024 : Shape := ⟨2, ![2, 1024]⟩
abbrev S2x4096x1024 : Shape := ⟨3, ![2, 4096, 1024]⟩
abbrev S2048x4 : Shape := ⟨2, ![2048, 4]⟩
abbrev S2048 : Shape := ⟨1, ![2048]⟩
abbrev S2x96x2048 : Shape := ⟨3, ![2, 96, 2048]⟩
abbrev S2x2048x64 : Shape := ⟨3, ![2, 2048, 64]⟩
abbrev S2x2048 : Shape := ⟨2, ![2, 2048]⟩
abbrev S2048x16 : Shape := ⟨2, ![2048, 16]⟩
abbrev S2x1024x2048 : Shape := ⟨3, ![2, 1024, 2048]⟩
abbrev S2048x1024 : Shape := ⟨2, ![2048, 1024]⟩
abbrev S2x2048x1024 : Shape := ⟨3, ![2, 2048, 1024]⟩
abbrev S4x2048 : Shape := ⟨2, ![4, 2048]⟩
abbrev S1x2048 : Shape := ⟨2, ![1, 2048]⟩
abbrev S2048x2048 : Shape := ⟨2, ![2048, 2048]⟩
abbrev S2x512x1024 : Shape := ⟨3, ![2, 512, 1024]⟩
abbrev S4x512 : Shape := ⟨2, ![4, 512]⟩
abbrev S1x512 : Shape := ⟨2, ![1, 512]⟩
abbrev S2048x512 : Shape := ⟨2, ![2048, 512]⟩
abbrev S1024x1024 : Shape := ⟨2, ![1024, 1024]⟩
abbrev S1x512x1024 : Shape := ⟨3, ![1, 512, 1024]⟩
abbrev S512x1024 : Shape := ⟨2, ![512, 1024]⟩
abbrev S1024x512 : Shape := ⟨2, ![1024, 512]⟩
abbrev S3x512 : Shape := ⟨2, ![3, 512]⟩
abbrev S2045x512 : Shape := ⟨2, ![2045, 512]⟩
abbrev S2x512 : Shape := ⟨2, ![2, 512]⟩
abbrev S2046x512 : Shape := ⟨2, ![2046, 512]⟩
abbrev S2047x512 : Shape := ⟨2, ![2047, 512]⟩
abbrev S2048x96 : Shape := ⟨2, ![2048, 96]⟩
abbrev S1024x2048 : Shape := ⟨2, ![1024, 2048]⟩
abbrev S1x96x2048 : Shape := ⟨3, ![1, 96, 2048]⟩
abbrev S96x2048 : Shape := ⟨2, ![96, 2048]⟩
abbrev S1024x96 : Shape := ⟨2, ![1024, 96]⟩
abbrev S2048x64 : Shape := ⟨2, ![2048, 64]⟩
abbrev S2048x16x1 : Shape := ⟨3, ![2048, 16, 1]⟩
abbrev S2048x16x128 : Shape := ⟨3, ![2048, 16, 128]⟩
abbrev S32768x128 : Shape := ⟨2, ![32768, 128]⟩
abbrev S16x2048 : Shape := ⟨2, ![16, 2048]⟩
abbrev S2x1x2048 : Shape := ⟨3, ![2, 1, 2048]⟩
abbrev S256x64 : Shape := ⟨2, ![256, 64]⟩
abbrev S1x512x64 : Shape := ⟨3, ![1, 512, 64]⟩
abbrev S1x1x512 : Shape := ⟨3, ![1, 1, 512]⟩
abbrev S4096x128 : Shape := ⟨2, ![4096, 128]⟩
abbrev S16x512 : Shape := ⟨2, ![16, 512]⟩
abbrev S256x512 : Shape := ⟨2, ![256, 512]⟩
abbrev S512x64 : Shape := ⟨2, ![512, 64]⟩
abbrev S16x128 : Shape := ⟨2, ![16, 128]⟩
abbrev S512 : Shape := ⟨1, ![512]⟩
abbrev S1x1024x2048 : Shape := ⟨3, ![1, 1024, 2048]⟩

abbrev nBuf : Space → Nat
  | .hbm => 34
  | .vmem => 42
  | .smem => 0
  | _ => 0

abbrev bufTy : (tb : Table) → Fin (tcTables nBuf tb) → BufTy
  | .hbm, ⟨0, _⟩ => ⟨S1x2048x1024, .f32⟩
  | .hbm, ⟨1, _⟩ => ⟨S2x1024, .i32⟩
  | .hbm, ⟨2, _⟩ => ⟨S2x4096x1024, .f32⟩
  | .hbm, ⟨3, _⟩ => ⟨S2048x4, .f32⟩
  | .hbm, ⟨4, _⟩ => ⟨S2048, .f32⟩
  | .hbm, ⟨5, _⟩ => ⟨S2x96x2048, .f32⟩
  | .hbm, ⟨6, _⟩ => ⟨S2x2048x64, .f32⟩
  | .hbm, ⟨7, _⟩ => ⟨S2x2048, .f32⟩
  | .hbm, ⟨8, _⟩ => ⟨S2048x16, .f32⟩
  | .hbm, ⟨9, _⟩ => ⟨S2048, .f32⟩
  | .hbm, ⟨10, _⟩ => ⟨S2x1024x2048, .f32⟩
  | .hbm, ⟨11, _⟩ => ⟨S2048x1024, .f32⟩
  | .hbm, ⟨12, _⟩ => ⟨S2x2048x1024, .f32⟩
  | .hbm, ⟨13, _⟩ => ⟨S2x2048x1024, .f32⟩
  | .hbm, ⟨14, _⟩ => ⟨S4x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x96, .f32⟩
  | .hbm, ⟨19, _⟩ => ⟨S2048x64, .f32⟩
  | .hbm, ⟨20, _⟩ => ⟨S2048x16, .f32⟩
  | .hbm, ⟨21, _⟩ => ⟨S2048x16x1, .f32⟩
  | .hbm, ⟨22, _⟩ => ⟨S2048x16x128, .f32⟩
  | .hbm, ⟨23, _⟩ => ⟨S32768x128, .f32⟩
  | .hbm, ⟨24, _⟩ => ⟨S2048x16, .f32⟩
  | .hbm, ⟨25, _⟩ => ⟨S2048x16x1, .f32⟩
  | .hbm, ⟨26, _⟩ => ⟨S2048x16x128, .f32⟩
  | .hbm, ⟨27, _⟩ => ⟨S32768x128, .f32⟩
  | .hbm, ⟨28, _⟩ => ⟨S16x2048, .f32⟩
  | .hbm, ⟨29, _⟩ => ⟨S2x1x2048, .f32⟩
  | .hbm, ⟨30, _⟩ => ⟨S1x2048, .f32⟩
  | .hbm, ⟨31, _⟩ => ⟨S2048x2048, .f32⟩
  | .hbm, ⟨32, _⟩ => ⟨S2048x1024, .f32⟩
  | .hbm, ⟨33, _⟩ => ⟨S1x2048x1024, .f32⟩
  | .local _ .vmem, ⟨0, _⟩ => ⟨S2048x1024, .f32⟩
  | .local _ .vmem, ⟨1, _⟩ => ⟨S2x512x1024, .f32⟩
  | .local _ .vmem, ⟨2, _⟩ => ⟨S2x512x1024, .f32⟩
  | .local _ .vmem, ⟨3, _⟩ => ⟨S2x512x1024, .f32⟩
  | .local _ .vmem, ⟨4, _⟩ => ⟨S2x512x1024, .f32⟩
  | .local _ .vmem, ⟨5, _⟩ => ⟨S4x512, .f32⟩
  | .local _ .vmem, ⟨6, _⟩ => ⟨S4x512, .f32⟩
  | .local _ .vmem, ⟨7, _⟩ => ⟨S1x512, .f32⟩
  | .local _ .vmem, ⟨8, _⟩ => ⟨S1x512, .f32⟩
  | .local _ .vmem, ⟨9, _⟩ => ⟨S2048x512, .f32⟩
  | .local _ .vmem, ⟨10, _⟩ => ⟨S2048x512, .f32⟩
  | .local _ .vmem, ⟨11, _⟩ => ⟨S2048x512, .f32⟩
  | .local _ .vmem, ⟨12, _⟩ => ⟨S2048x512, .f32⟩
  | .local _ .vmem, ⟨13, _⟩ => ⟨S2048x2048, .f32⟩
  | .local _ .vmem, ⟨14, _⟩ => ⟨S2x96x2048, .f32⟩
  | .local _ .vmem, ⟨15, _⟩ => ⟨S2048x96, .f32⟩
  | .local _ .vmem, ⟨16, _⟩ => ⟨S256x64, .f32⟩
  | .local _ .vmem, ⟨17, _⟩ => ⟨S256x64, .f32⟩
  | .local _ .vmem, ⟨18, _⟩ => ⟨S1x512x64, .f32⟩
  | .local _ .vmem, ⟨19, _⟩ => ⟨S1x512x64, .f32⟩
  | .local _ .vmem, ⟨20, _⟩ => ⟨S1x1x512, .f32⟩
  | .local _ .vmem, ⟨21, _⟩ => ⟨S1x1x512, .f32⟩
  | .local _ .vmem, ⟨22, _⟩ => ⟨S4096x128, .f32⟩
  | .local _ .vmem, ⟨23, _⟩ => ⟨S4096x128, .f32⟩
  | .local _ .vmem, ⟨24, _⟩ => ⟨S4096x128, .f32⟩
  | .local _ .vmem, ⟨25, _⟩ => ⟨S4096x128, .f32⟩
  | .local _ .vmem, ⟨26, _⟩ => ⟨S16x512, .f32⟩
  | .local _ .vmem, ⟨27, _⟩ => ⟨S16x512, .f32⟩
  | .local _ .vmem, ⟨28, _⟩ => ⟨S256x512, .f32⟩
  | .local _ .vmem, ⟨29, _⟩ => ⟨S256x512, .f32⟩
  | .local _ .vmem, ⟨30, _⟩ => ⟨S1x512, .f32⟩
  | .local _ .vmem, ⟨31, _⟩ => ⟨S1x512, .f32⟩
  | .local _ .vmem, ⟨32, _⟩ => ⟨S256x512, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x512, .f32⟩
  | .local _ .vmem, ⟨38, _⟩ => ⟨S16x512, .f32⟩
  | .local _ .vmem, ⟨39, _⟩ => ⟨S2048x2048, .f32⟩
  | .local _ .vmem, ⟨40, _⟩ => ⟨S2x1024x2048, .f32⟩
  | .local _ .vmem, ⟨41, _⟩ => ⟨S2048x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc2_stg8_0 : Ref sig .tc := ⟨.vmem, 32, rfl⟩
abbrev cc2_stg8_1 : Ref sig .tc := ⟨.vmem, 33, rfl⟩
abbrev cc2_stg9_0 : Ref sig .tc := ⟨.vmem, 34, rfl⟩
abbrev cc2_stg9_1 : Ref sig .tc := ⟨.vmem, 35, rfl⟩
abbrev cc2_scratch0 : Ref sig .tc := ⟨.vmem, 36, rfl⟩
abbrev cc2_scratch1 : Ref sig .tc := ⟨.vmem, 37, rfl⟩
abbrev cc2_scratch2 : Ref sig .tc := ⟨.vmem, 38, rfl⟩
abbrev cc3_stg0_0 : Ref sig .tc := ⟨.vmem, 39, rfl⟩
abbrev cc3_stg1_0 : Ref sig .tc := ⟨.vmem, 40, rfl⟩
abbrev cc3_stg2_0 : Ref sig .tc := ⟨.vmem, 41, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem1_0 : DmaSem sig := 14
abbrev cc1_sem2_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc2_sem6_0 : DmaSem sig := 28
abbrev cc2_sem6_1 : DmaSem sig := 29
abbrev cc2_sem7_0 : DmaSem sig := 30
abbrev cc2_sem7_1 : DmaSem sig := 31
abbrev cc2_sem8_0 : DmaSem sig := 32
abbrev cc2_sem8_1 : DmaSem sig := 33
abbrev cc2_sem9_0 : DmaSem sig := 34
abbrev cc2_sem9_1 : DmaSem sig := 35
abbrev cc3_sem0_0 : DmaSem sig := 36
abbrev cc3_sem1_0 : DmaSem sig := 37
abbrev cc3_sem2_0 : DmaSem sig := 38

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2x96x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨2, ![4, 8], ![false, false]⟩

@[reducible] def k2_t1_loop : Scf.Loop 32 :=
  let c0_i32_29 : BitVec 32 := 0#32
  let c256_i32 : BitVec 32 := 256#32
  let v54 : BitVec 32 := Scalar.addi c0_i32_29 c256_i32
  let c1_i32 : BitVec 32 := 1#32
  ⟨c0_i32_29, v54, c1_i32⟩
def k2_off1 (k2_t1 : Fin k2_t1_loop.trips) : Fin 2 → Nat :=
  let c0_i32_29 : BitVec 32 := 0#32
  let c1_i32 : BitVec 32 := 1#32
  let arg15 : BitVec 32 := Scf.iv c0_i32_29 c1_i32 k2_t1
  let v77 : Index := Scalar.indexCast arg15
  let c0_44 : Index := 0#32
  ![v77.toNat, 0]
def k2_off2 (k2_t1 : Fin k2_t1_loop.trips) : Fin 2 → Nat :=
  let c0_i32_29 : BitVec 32 := 0#32
  let c1_i32 : BitVec 32 := 1#32
  let arg15 : BitVec 32 := Scf.iv c0_i32_29 c1_i32 k2_t1
  let c1_i32_45 : BitVec 32 := 1#32
  let v79 : BitVec 32 := Scalar.addi arg15 c1_i32_45
  let c255_i32 : BitVec 32 := 255#32
  let v80 : BitVec 32 := Scalar.minsi v79 c255_i32
  let v81 : Index := Scalar.indexCast v80
  let c0_46 : Index := 0#32
  ![v81.toNat, 0]
def k2_off3 (k2_t1 : Fin k2_t1_loop.trips) : Fin 2 → Nat :=
  let c0_i32_29 : BitVec 32 := 0#32
  let c1_i32 : BitVec 32 := 1#32
  let arg15 : BitVec 32 := Scf.iv c0_i32_29 c1_i32 k2_t1
  let c1_i32_45 : BitVec 32 := 1#32
  let v79 : BitVec 32 := Scalar.addi arg15 c1_i32_45
  let c255_i32 : BitVec 32 := 255#32
  let v80 : BitVec 32 := Scalar.minsi v79 c255_i32
  let c16_i32 : BitVec 32 := 16#32
  let v86 : BitVec 32 := Scalar.muli v80 c16_i32
  let v87 : Index := Scalar.indexCast v86
  let c0_47 : Index := 0#32
  ![v87.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg0.toNat, c0_i32_4.toNat]

def cc2_transform_2 (i : grid2.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S256x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x512x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S4096x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S4096x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S16x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S256x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S256x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S256x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S2048x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S2x1024x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S2048x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]
-- ==== ReferenceIdeal.lean ====
abbrev S1x2048x1024 : Shape := ⟨3, ![1, 2048, 1024]⟩
abbrev S2x1024 : Shape := ⟨2, ![2, 1024]⟩
abbrev S2x4096x1024 : Shape := ⟨3, ![2, 4096, 1024]⟩
abbrev S2048x4 : Shape := ⟨2, ![2048, 4]⟩
abbrev S2048 : Shape := ⟨1, ![2048]⟩
abbrev S2x96x2048 : Shape := ⟨3, ![2, 96, 2048]⟩
abbrev S2x2048x64 : Shape := ⟨3, ![2, 2048, 64]⟩
abbrev S2x2048 : Shape := ⟨2, ![2, 2048]⟩
abbrev S2048x16 : Shape := ⟨2, ![2048, 16]⟩
abbrev S2x1024x2048 : Shape := ⟨3, ![2, 1024, 2048]⟩
abbrev S2048x1024 : Shape := ⟨2, ![2048, 1024]⟩
abbrev S_ : Shape := ⟨0, ![]⟩
abbrev S2048x4096 : Shape := ⟨2, ![2048, 4096]⟩
abbrev S1x1024 : Shape := ⟨2, ![1, 1024]⟩
abbrev S1024 : Shape := ⟨1, ![1024]⟩
abbrev S1024x1 : Shape := ⟨2, ![1024, 1]⟩
abbrev S1024x1024 : Shape := ⟨2, ![1024, 1024]⟩
abbrev S1x4096x1024 : Shape := ⟨3, ![1, 4096, 1024]⟩
abbrev S4096x1024 : Shape := ⟨2, ![4096, 1024]⟩
abbrev S1024x4096 : Shape := ⟨2, ![1024, 4096]⟩
abbrev S1x2048x4096 : Shape := ⟨3, ![1, 2048, 4096]⟩
abbrev S1x4096x2048 : Shape := ⟨3, ![1, 4096, 2048]⟩
abbrev S1x2048x2048 : Shape := ⟨3, ![1, 2048, 2048]⟩
abbrev S1x2048x2051 : Shape := ⟨3, ![1, 2048, 2051]⟩
abbrev S1x2048x1 : Shape := ⟨3, ![1, 2048, 1]⟩
abbrev S2048x1 : Shape := ⟨2, ![2048, 1]⟩
abbrev S2048x2048 : Shape := ⟨2, ![2048, 2048]⟩
abbrev S2048x96 : Shape := ⟨2, ![2048, 96]⟩
abbrev S1024x2048 : Shape := ⟨2, ![1024, 2048]⟩
abbrev S1x96x2048 : Shape := ⟨3, ![1, 96, 2048]⟩
abbrev S96x2048 : Shape := ⟨2, ![96, 2048]⟩
abbrev S1024x96 : Shape := ⟨2, ![1024, 96]⟩
abbrev S2048x64 : Shape := ⟨2, ![2048, 64]⟩
abbrev S1024x64 : Shape := ⟨2, ![1024, 64]⟩
abbrev S1x2048x64 : Shape := ⟨3, ![1, 2048, 64]⟩
abbrev S64x2048 : Shape := ⟨2, ![64, 2048]⟩
abbrev S1x2048 : Shape := ⟨2, ![1, 2048]⟩
abbrev S1x2048x16 : Shape := ⟨3, ![1, 2048, 16]⟩
abbrev S2048x1x2048 : Shape := ⟨3, ![2048, 1, 2048]⟩
abbrev S2048x1x16 : Shape := ⟨3, ![2048, 1, 16]⟩
abbrev S1x1x2048 : Shape := ⟨3, ![1, 1, 2048]⟩
abbrev S1x1x16 : Shape := ⟨3, ![1, 1, 16]⟩
abbrev S1x16 : Shape := ⟨2, ![1, 16]⟩
abbrev S1x1024x2048 : Shape := ⟨3, ![1, 1024, 2048]⟩

abbrev nBuf : Space → Nat
  | .hbm => 391
  | .vmem => 0
  | .smem => 0
  | _ => 0

abbrev hbmTy0_0 (i : Nat) : BufTy := match i % 128 with
  | 0 => ⟨S1x2048x1024, .f32⟩
  | 1 => ⟨S2x1024, .i32⟩
  | 2 => ⟨S2x4096x1024, .f32⟩
  | 3 => ⟨S2048x4, .f32⟩
  | 4 => ⟨S2048, .f32⟩
  | 5 => ⟨S2x96x2048, .f32⟩
  | 6 => ⟨S2x2048x64, .f32⟩
  | 7 => ⟨S2x2048, .f32⟩
  | 8 => ⟨S2048x16, .f32⟩
  | 9 => ⟨S2048, .f32⟩
  | 10 => ⟨S2x1024x2048, .f32⟩
  | 11 => ⟨S2048x1024, .f32⟩
  | 12 => ⟨S_, .f32⟩
  | 13 => ⟨S2048x4096, .f32⟩
  | 14 => ⟨S1x1024, .i32⟩
  | 15 => ⟨S1024, .i32⟩
  | 16 => ⟨S_, .i32⟩
  | 17 => ⟨S1024, .i32⟩
  | 18 => ⟨S1024, .i1⟩
  | 19 => ⟨S_, .i32⟩
  | 20 => ⟨S1024, .i32⟩
  | 21 => ⟨S1024, .i32⟩
  | 22 => ⟨S1024, .i32⟩
  | 23 => ⟨S1024x1, .i32⟩
  | 24 => ⟨S1024x1024, .f32⟩
  | 25 => ⟨S1x4096x1024, .f32⟩
  | 26 => ⟨S4096x1024, .f32⟩
  | 27 => ⟨S1024x4096, .f32⟩
  | 28 => ⟨S1024x4096, .f32⟩
  | 29 => ⟨S1x1024, .i32⟩
  | 30 => ⟨S1024, .i32⟩
  | 31 => ⟨S_, .i32⟩
  | 32 => ⟨S1024, .i32⟩
  | 33 => ⟨S1024, .i1⟩
  | 34 => ⟨S_, .i32⟩
  | 35 => ⟨S1024, .i32⟩
  | 36 => ⟨S1024, .i32⟩
  | 37 => ⟨S1024, .i32⟩
  | 38 => ⟨S1024x1, .i32⟩
  | 39 => ⟨S2048x4096, .f32⟩
  | 40 => ⟨S1x1024, .i32⟩
  | 41 => ⟨S1024, .i32⟩
  | 42 => ⟨S_, .i32⟩
  | 43 => ⟨S1024, .i32⟩
  | 44 => ⟨S1024, .i1⟩
  | 45 => ⟨S_, .i32⟩
  | 46 => ⟨S1024, .i32⟩
  | 47 => ⟨S1024, .i32⟩
  | 48 => ⟨S1024, .i32⟩
  | 49 => ⟨S1024x1, .i32⟩
  | 50 => ⟨S1024x1024, .f32⟩
  | 51 => ⟨S1x4096x1024, .f32⟩
  | 52 => ⟨S4096x1024, .f32⟩
  | 53 => ⟨S1024x4096, .f32⟩
  | 54 => ⟨S1024x4096, .f32⟩
  | 55 => ⟨S1x1024, .i32⟩
  | 56 => ⟨S1024, .i32⟩
  | 57 => ⟨S_, .i32⟩
  | 58 => ⟨S1024, .i32⟩
  | 59 => ⟨S1024, .i1⟩
  | 60 => ⟨S_, .i32⟩
  | 61 => ⟨S1024, .i32⟩
  | 62 => ⟨S1024, .i32⟩
  | 63 => ⟨S1024, .i32⟩
  | 64 => ⟨S1024x1, .i32⟩
  | 65 => ⟨S2048x4096, .f32⟩
  | 66 => ⟨S1x2048x4096, .f32⟩
  | 67 => ⟨S1x4096x2048, .f32⟩
  | 68 => ⟨S1x2048x2048, .f32⟩
  | 69 => ⟨S1x2048x2048, .f32⟩
  | 70 => ⟨S_, .i32⟩
  | 71 => ⟨S_, .f32⟩
  | 72 => ⟨S1x2048x2051, .f32⟩
  | 73 => ⟨S1x2048x1, .f32⟩
  | 74 => ⟨S2048x1, .f32⟩
  | 75 => ⟨S2048, .f32⟩
  | 76 => ⟨S1x2048x1, .f32⟩
  | 77 => ⟨S1x2048x2048, .f32⟩
  | 78 => ⟨S1x2048x2048, .f32⟩
  | 79 => ⟨S1x2048x2048, .f32⟩
  | 80 => ⟨S_, .f32⟩
  | 81 => ⟨S1x2048x2048, .f32⟩
  | 82 => ⟨S1x2048x2048, .f32⟩
  | 83 => ⟨S2048x1, .f32⟩
  | 84 => ⟨S2048, .f32⟩
  | 85 => ⟨S1x2048x1, .f32⟩
  | 86 => ⟨S1x2048x2048, .f32⟩
  | 87 => ⟨S1x2048x2048, .f32⟩
  | 88 => ⟨S1x2048x2048, .f32⟩
  | 89 => ⟨S1x2048x2048, .f32⟩
  | 90 => ⟨S2048x1, .f32⟩
  | 91 => ⟨S2048, .f32⟩
  | 92 => ⟨S1x2048x1, .f32⟩
  | 93 => ⟨S1x2048x2048, .f32⟩
  | 94 => ⟨S1x2048x2048, .f32⟩
  | 95 => ⟨S1x2048x2048, .f32⟩
  | 96 => ⟨S1x2048x2048, .f32⟩
  | 97 => ⟨S2048x1, .f32⟩
  | 98 => ⟨S2048, .f32⟩
  | 99 => ⟨S1x2048x1, .f32⟩
  | 100 => ⟨S1x2048x2048, .f32⟩
  | 101 => ⟨S1x2048x2048, .f32⟩
  | 102 => ⟨S1x2048x2048, .f32⟩
  | 103 => ⟨S1x2048x2048, .f32⟩
  | 104 => ⟨S1x2048x2048, .f32⟩
  | 105 => ⟨S1x2048x2048, .f32⟩
  | 106 => ⟨S1x2048x2048, .f32⟩
  | 107 => ⟨S1x2048x2048, .f32⟩
  | 108 => ⟨S_, .f32⟩
  | 109 => ⟨S1x2048x2048, .f32⟩
  | 110 => ⟨S1x2048x2048, .f32⟩
  | 111 => ⟨S_, .f32⟩
  | 112 => ⟨S1x2048x2048, .f32⟩
  | 113 => ⟨S1x2048x2048, .f32⟩
  | 114 => ⟨S1x2048x2048, .f32⟩
  | 115 => ⟨S1x2048x2048, .f32⟩
  | 116 => ⟨S2048x2048, .f32⟩
  | 117 => ⟨S_, .f32⟩
  | 118 => ⟨S2048x96, .f32⟩
  | 119 => ⟨S1x1024, .i32⟩
  | 120 => ⟨S1024, .i32⟩
  | 121 => ⟨S_, .i32⟩
  | 122 => ⟨S1024, .i32⟩
  | 123 => ⟨S1024, .i1⟩
  | 124 => ⟨S_, .i32⟩
  | 125 => ⟨S1024, .i32⟩
  | 126 => ⟨S1024, .i32⟩
  | 127 => ⟨S1024, .i32⟩
  | _ => ⟨S1x2048x1024, .f32⟩

abbrev hbmTy0_1 (i : Nat) : BufTy := match i % 128 with
  | 0 => ⟨S1024x1, .i32⟩
  | 1 => ⟨S1024x2048, .f32⟩
  | 2 => ⟨S1x96x2048, .f32⟩
  | 3 => ⟨S96x2048, .f32⟩
  | 4 => ⟨S2048x96, .f32⟩
  | 5 => ⟨S1024x96, .f32⟩
  | 6 => ⟨S1x1024, .i32⟩
  | 7 => ⟨S1024, .i32⟩
  | 8 => ⟨S_, .i32⟩
  | 9 => ⟨S1024, .i32⟩
  | 10 => ⟨S1024, .i1⟩
  | 11 => ⟨S_, .i32⟩
  | 12 => ⟨S1024, .i32⟩
  | 13 => ⟨S1024, .i32⟩
  | 14 => ⟨S1024, .i32⟩
  | 15 => ⟨S1024x1, .i32⟩
  | 16 => ⟨S2048x96, .f32⟩
  | 17 => ⟨S1x1024, .i32⟩
  | 18 => ⟨S1024, .i32⟩
  | 19 => ⟨S_, .i32⟩
  | 20 => ⟨S1024, .i32⟩
  | 21 => ⟨S1024, .i1⟩
  | 22 => ⟨S_, .i32⟩
  | 23 => ⟨S1024, .i32⟩
  | 24 => ⟨S1024, .i32⟩
  | 25 => ⟨S1024, .i32⟩
  | 26 => ⟨S1024x1, .i32⟩
  | 27 => ⟨S1024x2048, .f32⟩
  | 28 => ⟨S1x96x2048, .f32⟩
  | 29 => ⟨S96x2048, .f32⟩
  | 30 => ⟨S2048x96, .f32⟩
  | 31 => ⟨S1024x96, .f32⟩
  | 32 => ⟨S1x1024, .i32⟩
  | 33 => ⟨S1024, .i32⟩
  | 34 => ⟨S_, .i32⟩
  | 35 => ⟨S1024, .i32⟩
  | 36 => ⟨S1024, .i1⟩
  | 37 => ⟨S_, .i32⟩
  | 38 => ⟨S1024, .i32⟩
  | 39 => ⟨S1024, .i32⟩
  | 40 => ⟨S1024, .i32⟩
  | 41 => ⟨S1024x1, .i32⟩
  | 42 => ⟨S2048x96, .f32⟩
  | 43 => ⟨S2048x64, .f32⟩
  | 44 => ⟨S2048x16, .f32⟩
  | 45 => ⟨S2048x16, .f32⟩
  | 46 => ⟨S_, .f32⟩
  | 47 => ⟨S2048x2048, .f32⟩
  | 48 => ⟨S1x1024, .i32⟩
  | 49 => ⟨S1024, .i32⟩
  | 50 => ⟨S_, .i32⟩
  | 51 => ⟨S1024, .i32⟩
  | 52 => ⟨S1024, .i1⟩
  | 53 => ⟨S_, .i32⟩
  | 54 => ⟨S1024, .i32⟩
  | 55 => ⟨S1024, .i32⟩
  | 56 => ⟨S1024, .i32⟩
  | 57 => ⟨S1024x1, .i32⟩
  | 58 => ⟨S1024x64, .f32⟩
  | 59 => ⟨S1x2048x64, .f32⟩
  | 60 => ⟨S2048x64, .f32⟩
  | 61 => ⟨S64x2048, .f32⟩
  | 62 => ⟨S1024x2048, .f32⟩
  | 63 => ⟨S1x2048, .f32⟩
  | 64 => ⟨S2048, .f32⟩
  | 65 => ⟨S1x2048, .f32⟩
  | 66 => ⟨S1024x2048, .f32⟩
  | 67 => ⟨S1024x2048, .f32⟩
  | 68 => ⟨S1x1024, .i32⟩
  | 69 => ⟨S1024, .i32⟩
  | 70 => ⟨S_, .i32⟩
  | 71 => ⟨S1024, .i32⟩
  | 72 => ⟨S1024, .i1⟩
  | 73 => ⟨S_, .i32⟩
  | 74 => ⟨S1024, .i32⟩
  | 75 => ⟨S1024, .i32⟩
  | 76 => ⟨S1024, .i32⟩
  | 77 => ⟨S1024x1, .i32⟩
  | 78 => ⟨S2048x2048, .f32⟩
  | 79 => ⟨S1x1024, .i32⟩
  | 80 => ⟨S1024, .i32⟩
  | 81 => ⟨S_, .i32⟩
  | 82 => ⟨S1024, .i32⟩
  | 83 => ⟨S1024, .i1⟩
  | 84 => ⟨S_, .i32⟩
  | 85 => ⟨S1024, .i32⟩
  | 86 => ⟨S1024, .i32⟩
  | 87 => ⟨S1024, .i32⟩
  | 88 => ⟨S1024x1, .i32⟩
  | 89 => ⟨S1024x64, .f32⟩
  | 90 => ⟨S1x2048x64, .f32⟩
  | 91 => ⟨S2048x64, .f32⟩
  | 92 => ⟨S64x2048, .f32⟩
  | 93 => ⟨S1024x2048, .f32⟩
  | 94 => ⟨S1x2048, .f32⟩
  | 95 => ⟨S2048, .f32⟩
  | 96 => ⟨S1x2048, .f32⟩
  | 97 => ⟨S1024x2048, .f32⟩
  | 98 => ⟨S1024x2048, .f32⟩
  | 99 => ⟨S1x1024, .i32⟩
  | 100 => ⟨S1024, .i32⟩
  | 101 => ⟨S_, .i32⟩
  | 102 => ⟨S1024, .i32⟩
  | 103 => ⟨S1024, .i1⟩
  | 104 => ⟨S_, .i32⟩
  | 105 => ⟨S1024, .i32⟩
  | 106 => ⟨S1024, .i32⟩
  | 107 => ⟨S1024, .i32⟩
  | 108 => ⟨S1024x1, .i32⟩
  | 109 => ⟨S2048x2048, .f32⟩
  | 110 => ⟨S_, .f32⟩
  | 111 => ⟨S2048x2048, .f32⟩
  | 112 => ⟨S2048x2048, .f32⟩
  | 113 => ⟨S2048x2048, .f32⟩
  | 114 => ⟨S2048x2048, .f32⟩
  | 115 => ⟨S2048x2048, .i1⟩
  | 116 => ⟨S2048x2048, .f32⟩
  | 117 => ⟨S2048x2048, .f32⟩
  | 118 => ⟨S2048x2048, .f32⟩
  | 119 => ⟨S2048x2048, .f32⟩
  | 120 => ⟨S2048x2048, .f32⟩
  | 121 => ⟨S2048x2048, .f32⟩
  | 122 => ⟨S2048x2048, .f32⟩
  | 123 => ⟨S2048x2048, .f32⟩
  | 124 => ⟨S1x2048x2048, .f32⟩
  | 125 => ⟨S1x2048x16, .f32⟩
  | 126 => ⟨S1x2048x16, .f32⟩
  | 127 => ⟨S1x2048x2048, .f32⟩
  | _ => ⟨S1x2048x1024, .f32⟩

abbrev hbmTy0_2 (i : Nat) : BufTy := match i % 128 with
  | 0 => ⟨S2048x16, .f32⟩
  | 1 => ⟨S2048x16, .f32⟩
  | 2 => ⟨S_, .f32⟩
  | 3 => ⟨S1x2048x16, .f32⟩
  | 4 => ⟨S2048x1x2048, .f32⟩
  | 5 => ⟨S2048x1x16, .f32⟩
  | 6 => ⟨S2048x1x16, .f32⟩
  | 7 => ⟨S2048x1x2048, .f32⟩
  | 8 => ⟨S_, .f32⟩
  | 9 => ⟨S2048x1x2048, .f32⟩
  | 10 => ⟨S_, .i32⟩
  | 11 => ⟨S2048x1x2048, .f32⟩
  | 12 => ⟨S2048x1x16, .f32⟩
  | 13 => ⟨S2048x1x16, .f32⟩
  | 14 => ⟨S2048x1x2048, .f32⟩
  | 15 => ⟨S2048x16, .f32⟩
  | 16 => ⟨S_, .i32⟩
  | 17 => ⟨S1x2048x16, .f32⟩
  | 18 => ⟨S2048x1x2048, .f32⟩
  | 19 => ⟨S_, .i32⟩
  | 20 => ⟨S_, .i1⟩
  | 21 => ⟨S_, .i32⟩
  | 22 => ⟨S_, .i32⟩
  | 23 => ⟨S1x1x2048, .f32⟩
  | 24 => ⟨S1x2048, .f32⟩
  | 25 => ⟨S_, .i32⟩
  | 26 => ⟨S_, .i32⟩
  | 27 => ⟨S1x1x16, .f32⟩
  | 28 => ⟨S1x16, .f32⟩
  | 29 => ⟨S_, .i32⟩
  | 30 => ⟨S_, .i32⟩
  | 31 => ⟨S1x1x16, .f32⟩
  | 32 => ⟨S1x16, .f32⟩
  | 33 => ⟨S_, .i32⟩
  | 34 => ⟨S_, .i32⟩
  | 35 => ⟨S1x1x2048, .f32⟩
  | 36 => ⟨S1x2048, .f32⟩
  | 37 => ⟨S1x2048x1, .f32⟩
  | 38 => ⟨S1x2048x16, .f32⟩
  | 39 => ⟨S1x2048x16, .f32⟩
  | 40 => ⟨S1x2048x16, .f32⟩
  | 41 => ⟨S1x2048x16, .f32⟩
  | 42 => ⟨S1x2048x1, .f32⟩
  | 43 => ⟨S1x1x16, .f32⟩
  | 44 => ⟨S1x2048x16, .f32⟩
  | 45 => ⟨S1x2048x16, .f32⟩
  | 46 => ⟨S1x2048x16, .f32⟩
  | 47 => ⟨S1x2048x1, .f32⟩
  | 48 => ⟨S1x2048x16, .f32⟩
  | 49 => ⟨S1x2048x16, .f32⟩
  | 50 => ⟨S1x2048x16, .f32⟩
  | 51 => ⟨S1x2048x16, .f32⟩
  | 52 => ⟨S1x1x16, .f32⟩
  | 53 => ⟨S1x2048x16, .f32⟩
  | 54 => ⟨S1x2048x16, .f32⟩
  | 55 => ⟨S_, .f32⟩
  | 56 => ⟨S1x2048, .f32⟩
  | 57 => ⟨S1x1x2048, .f32⟩
  | 58 => ⟨S_, .i32⟩
  | 59 => ⟨S_, .i32⟩
  | 60 => ⟨S2048x1x2048, .f32⟩
  | 61 => ⟨S_, .i32⟩
  | 62 => ⟨S_, .i32⟩
  | 63 => ⟨S1x2048x2048, .f32⟩
  | 64 => ⟨S1x1x2048, .f32⟩
  | 65 => ⟨S1x2048x2048, .f32⟩
  | 66 => ⟨S1x2048x2048, .f32⟩
  | 67 => ⟨S1x2048x2048, .f32⟩
  | 68 => ⟨S1x2048x2048, .f32⟩
  | 69 => ⟨S1x2048x2048, .f32⟩
  | 70 => ⟨S1x2048x2048, .f32⟩
  | 71 => ⟨S_, .f32⟩
  | 72 => ⟨S1x2048x2048, .f32⟩
  | 73 => ⟨S1x2048x2048, .f32⟩
  | 74 => ⟨S_, .f32⟩
  | 75 => ⟨S1x2048x2048, .f32⟩
  | 76 => ⟨S1x2048x2048, .f32⟩
  | 77 => ⟨S1x2048x2048, .f32⟩
  | 78 => ⟨S1x2048x2048, .f32⟩
  | 79 => ⟨S2048x2048, .f32⟩
  | 80 => ⟨S_, .f32⟩
  | 81 => ⟨S2048x1024, .f32⟩
  | 82 => ⟨S1x1024, .i32⟩
  | 83 => ⟨S1024, .i32⟩
  | 84 => ⟨S_, .i32⟩
  | 85 => ⟨S1024, .i32⟩
  | 86 => ⟨S1024, .i1⟩
  | 87 => ⟨S_, .i32⟩
  | 88 => ⟨S1024, .i32⟩
  | 89 => ⟨S1024, .i32⟩
  | 90 => ⟨S1024, .i32⟩
  | 91 => ⟨S1024x1, .i32⟩
  | 92 => ⟨S1024x2048, .f32⟩
  | 93 => ⟨S1x1024x2048, .f32⟩
  | 94 => ⟨S1024x2048, .f32⟩
  | 95 => ⟨S2048x1024, .f32⟩
  | 96 => ⟨S1024x1024, .f32⟩
  | 97 => ⟨S1x1024, .i32⟩
  | 98 => ⟨S1024, .i32⟩
  | 99 => ⟨S_, .i32⟩
  | 100 => ⟨S1024, .i32⟩
  | 101 => ⟨S1024, .i1⟩
  | 102 => ⟨S_, .i32⟩
  | 103 => ⟨S1024, .i32⟩
  | 104 => ⟨S1024, .i32⟩
  | 105 => ⟨S1024, .i32⟩
  | 106 => ⟨S1024x1, .i32⟩
  | 107 => ⟨S2048x1024, .f32⟩
  | 108 => ⟨S1x1024, .i32⟩
  | 109 => ⟨S1024, .i32⟩
  | 110 => ⟨S_, .i32⟩
  | 111 => ⟨S1024, .i32⟩
  | 112 => ⟨S1024, .i1⟩
  | 113 => ⟨S_, .i32⟩
  | 114 => ⟨S1024, .i32⟩
  | 115 => ⟨S1024, .i32⟩
  | 116 => ⟨S1024, .i32⟩
  | 117 => ⟨S1024x1, .i32⟩
  | 118 => ⟨S1024x2048, .f32⟩
  | 119 => ⟨S1x1024x2048, .f32⟩
  | 120 => ⟨S1024x2048, .f32⟩
  | 121 => ⟨S2048x1024, .f32⟩
  | 122 => ⟨S1024x1024, .f32⟩
  | 123 => ⟨S1x1024, .i32⟩
  | 124 => ⟨S1024, .i32⟩
  | 125 => ⟨S_, .i32⟩
  | 126 => ⟨S1024, .i32⟩
  | 127 => ⟨S1024, .i1⟩
  | _ => ⟨S1x2048x1024, .f32⟩

abbrev hbmTy0_3 (i : Nat) : BufTy := match i % 128 with
  | 0 => ⟨S_, .i32⟩
  | 1 => ⟨S1024, .i32⟩
  | 2 => ⟨S1024, .i32⟩
  | 3 => ⟨S1024, .i32⟩
  | 4 => ⟨S1024x1, .i32⟩
  | 5 => ⟨S2048x1024, .f32⟩
  | 6 => ⟨S1x2048x1024, .f32⟩
  | _ => ⟨S1x2048x1024, .f32⟩

abbrev hbmTy (i : Nat) : BufTy := match i / 128 with
  | 0 => hbmTy0_0 i
  | 1 => hbmTy0_1 i
  | 2 => hbmTy0_2 i
  | 3 => hbmTy0_3 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_3 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_5 : Ref sig .tc := ⟨.hbm, 57, rfl⟩
abbrev main_v39 : Ref sig .tc := ⟨.hbm, 58, rfl⟩
abbrev main_v40 : Ref sig .tc := ⟨.hbm, 59, rfl⟩
abbrev main_c_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_7 : Ref sig .tc := ⟨.hbm, 70, rfl⟩
abbrev main_call0_v0 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_8 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_9 : Ref sig .tc := ⟨.hbm, 108, rfl⟩
abbrev main_v85 : Ref sig .tc := ⟨.hbm, 109, rfl⟩
abbrev main_v86 : Ref sig .tc := ⟨.hbm, 110, rfl⟩
abbrev main_cst_10 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_11 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_c_12 : Ref sig .tc := ⟨.hbm, 121, rfl⟩
abbrev main_v95 : Ref sig .tc := ⟨.hbm, 122, rfl⟩
abbrev main_v96 : Ref sig .tc := ⟨.hbm, 123, rfl⟩
abbrev main_c_13 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_c_14 : Ref sig .tc := ⟨.hbm, 136, rfl⟩
abbrev main_v108 : Ref sig .tc := ⟨.hbm, 137, rfl⟩
abbrev main_v109 : Ref sig .tc := ⟨.hbm, 138, rfl⟩
abbrev main_c_15 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_c_16 : Ref sig .tc := ⟨.hbm, 147, rfl⟩
abbrev main_v117 : Ref sig .tc := ⟨.hbm, 148, rfl⟩
abbrev main_v118 : Ref sig .tc := ⟨.hbm, 149, rfl⟩
abbrev main_c_17 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_c_18 : Ref sig .tc := ⟨.hbm, 162, rfl⟩
abbrev main_v130 : Ref sig .tc := ⟨.hbm, 163, rfl⟩
abbrev main_v131 : Ref sig .tc := ⟨.hbm, 164, rfl⟩
abbrev main_c_19 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_cst_20 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_c_21 : Ref sig .tc := ⟨.hbm, 178, rfl⟩
abbrev main_v143 : Ref sig .tc := ⟨.hbm, 179, rfl⟩
abbrev main_v144 : Ref sig .tc := ⟨.hbm, 180, rfl⟩
abbrev main_c_22 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_c_23 : Ref sig .tc := ⟨.hbm, 198, rfl⟩
abbrev main_v161 : Ref sig .tc := ⟨.hbm, 199, rfl⟩
abbrev main_v162 : Ref sig .tc := ⟨.hbm, 200, rfl⟩
abbrev main_c_24 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_c_25 : Ref sig .tc := ⟨.hbm, 209, rfl⟩
abbrev main_v170 : Ref sig .tc := ⟨.hbm, 210, rfl⟩
abbrev main_v171 : Ref sig .tc := ⟨.hbm, 211, rfl⟩
abbrev main_c_26 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_c_27 : Ref sig .tc := ⟨.hbm, 229, rfl⟩
abbrev main_v188 : Ref sig .tc := ⟨.hbm, 230, rfl⟩
abbrev main_v189 : Ref sig .tc := ⟨.hbm, 231, rfl⟩
abbrev main_c_28 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_call1_cst : Ref sig .tc := ⟨.hbm, 238, rfl⟩
abbrev main_call1_v0 : Ref sig .tc := ⟨.hbm, 239, rfl⟩
abbrev main_call1_v1 : Ref sig .tc := ⟨.hbm, 240, rfl⟩
abbrev main_call1_v2 : Ref sig .tc := ⟨.hbm, 241, rfl⟩
abbrev main_call1_v3 : Ref sig .tc := ⟨.hbm, 242, rfl⟩
abbrev main_call1_v4 : Ref sig .tc := ⟨.hbm, 243, rfl⟩
abbrev main_call1_v5 : Ref sig .tc := ⟨.hbm, 244, rfl⟩
abbrev main_call1_v6 : Ref sig .tc := ⟨.hbm, 245, rfl⟩
abbrev main_call1_v7 : Ref sig .tc := ⟨.hbm, 246, rfl⟩
abbrev main_call1_v8 : Ref sig .tc := ⟨.hbm, 247, rfl⟩
abbrev main_call1_v9 : Ref sig .tc := ⟨.hbm, 248, rfl⟩
abbrev main_call1_v10 : Ref sig .tc := ⟨.hbm, 249, rfl⟩
abbrev main_call1_v11 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_cst_29 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_cst_30 : Ref sig .tc := ⟨.hbm, 264, rfl⟩
abbrev main_v207 : Ref sig .tc := ⟨.hbm, 265, rfl⟩
abbrev main_c_31 : Ref sig .tc := ⟨.hbm, 266, rfl⟩
abbrev main_v208_0 : Ref sig .tc := ⟨.hbm, 267, rfl⟩
abbrev main_v208_1 : Ref sig .tc := ⟨.hbm, 268, rfl⟩
abbrev main_v208_2 : Ref sig .tc := ⟨.hbm, 269, rfl⟩
abbrev main_v208_3 : Ref sig .tc := ⟨.hbm, 270, rfl⟩
abbrev main_v208_4 : Ref sig .tc := ⟨.hbm, 271, rfl⟩
abbrev main_v208_5 : Ref sig .tc := ⟨.hbm, 272, rfl⟩
abbrev main_v208_6 : Ref sig .tc := ⟨.hbm, 273, rfl⟩
abbrev main_v208_7 : Ref sig .tc := ⟨.hbm, 274, rfl⟩
abbrev main_while0c_c_50 : Ref sig .tc := ⟨.hbm, 275, rfl⟩
abbrev main_while0c_v270 : Ref sig .tc := ⟨.hbm, 276, rfl⟩
abbrev main_while0b_call2_c : Ref sig .tc := ⟨.hbm, 277, rfl⟩
abbrev main_while0b_call2_c_0 : Ref sig .tc := ⟨.hbm, 278, rfl⟩
abbrev main_while0b_call2_v0 : Ref sig .tc := ⟨.hbm, 279, rfl⟩
abbrev main_while0b_v270 : Ref sig .tc := ⟨.hbm, 280, rfl⟩
abbrev main_while0b_call3_c : Ref sig .tc := ⟨.hbm, 281, rfl⟩
abbrev main_while0b_call3_c_0 : Ref sig .tc := ⟨.hbm, 282, rfl⟩
abbrev main_while0b_call3_v0 : Ref sig .tc := ⟨.hbm, 283, rfl⟩
abbrev main_while0b_v271 : Ref sig .tc := ⟨.hbm, 284, rfl⟩
abbrev main_while0b_call4_c : Ref sig .tc := ⟨.hbm, 285, rfl⟩
abbrev main_while0b_call4_c_0 : Ref sig .tc := ⟨.hbm, 286, rfl⟩
abbrev main_while0b_call4_v0 : Ref sig .tc := ⟨.hbm, 287, rfl⟩
abbrev main_while0b_v272 : Ref sig .tc := ⟨.hbm, 288, rfl⟩
abbrev main_while0b_call5_c : Ref sig .tc := ⟨.hbm, 289, rfl⟩
abbrev main_while0b_call5_c_0 : Ref sig .tc := ⟨.hbm, 290, rfl⟩
abbrev main_while0b_call5_v0 : Ref sig .tc := ⟨.hbm, 291, rfl⟩
abbrev main_while0b_v273 : Ref sig .tc := ⟨.hbm, 292, rfl⟩
abbrev main_while0b_v274 : Ref sig .tc := ⟨.hbm, 293, rfl⟩
abbrev main_while0b_v275 : Ref sig .tc := ⟨.hbm, 294, rfl⟩
abbrev main_while0b_v276 : Ref sig .tc := ⟨.hbm, 295, rfl⟩
abbrev main_while0b_v277 : Ref sig .tc := ⟨.hbm, 296, rfl⟩
abbrev main_while0b_v278 : Ref sig .tc := ⟨.hbm, 297, rfl⟩
abbrev main_while0b_v279 : Ref sig .tc := ⟨.hbm, 298, rfl⟩
abbrev main_while0b_v280 : Ref sig .tc := ⟨.hbm, 299, rfl⟩
abbrev main_while0b_v281 : Ref sig .tc := ⟨.hbm, 300, rfl⟩
abbrev main_while0b_v282 : Ref sig .tc := ⟨.hbm, 301, rfl⟩
abbrev main_while0b_v283 : Ref sig .tc := ⟨.hbm, 302, rfl⟩
abbrev main_while0b_v284 : Ref sig .tc := ⟨.hbm, 303, rfl⟩
abbrev main_while0b_v285 : Ref sig .tc := ⟨.hbm, 304, rfl⟩
abbrev main_while0b_v286 : Ref sig .tc := ⟨.hbm, 305, rfl⟩
abbrev main_while0b_v287 : Ref sig .tc := ⟨.hbm, 306, rfl⟩
abbrev main_while0b_v288 : Ref sig .tc := ⟨.hbm, 307, rfl⟩
abbrev main_while0b_v289 : Ref sig .tc := ⟨.hbm, 308, rfl⟩
abbrev main_while0b_v290 : Ref sig .tc := ⟨.hbm, 309, rfl⟩
abbrev main_while0b_v291 : Ref sig .tc := ⟨.hbm, 310, rfl⟩
abbrev main_while0b_cst_50 : Ref sig .tc := ⟨.hbm, 311, rfl⟩
abbrev main_while0b_v292 : Ref sig .tc := ⟨.hbm, 312, rfl⟩
abbrev main_while0b_call6_v0 : Ref sig .tc := ⟨.hbm, 313, rfl⟩
abbrev main_while0b_call6_c : Ref sig .tc := ⟨.hbm, 314, rfl⟩
abbrev main_while0b_call6_c_0 : Ref sig .tc := ⟨.hbm, 315, rfl⟩
abbrev main_while0b_v293 : Ref sig .tc := ⟨.hbm, 316, rfl⟩
abbrev main_while0b_c_51 : Ref sig .tc := ⟨.hbm, 317, rfl⟩
abbrev main_while0b_v294 : Ref sig .tc := ⟨.hbm, 318, rfl⟩
abbrev main_v209 : Ref sig .tc := ⟨.hbm, 319, rfl⟩
abbrev main_v210 : Ref sig .tc := ⟨.hbm, 320, rfl⟩
abbrev main_v211 : Ref sig .tc := ⟨.hbm, 321, rfl⟩
abbrev main_v212 : Ref sig .tc := ⟨.hbm, 322, rfl⟩
abbrev main_v213 : Ref sig .tc := ⟨.hbm, 323, rfl⟩
abbrev main_v214 : Ref sig .tc := ⟨.hbm, 324, rfl⟩
abbrev main_v215 : Ref sig .tc := ⟨.hbm, 325, rfl⟩
abbrev main_v216 : Ref sig .tc := ⟨.hbm, 326, rfl⟩
abbrev main_cst_32 : Ref sig .tc := ⟨.hbm, 327, rfl⟩
abbrev main_v217 : Ref sig .tc := ⟨.hbm, 328, rfl⟩
abbrev main_v218 : Ref sig .tc := ⟨.hbm, 329, rfl⟩
abbrev main_cst_33 : Ref sig .tc := ⟨.hbm, 330, rfl⟩
abbrev main_v219 : Ref sig .tc := ⟨.hbm, 331, rfl⟩
abbrev main_v220 : Ref sig .tc := ⟨.hbm, 332, rfl⟩
abbrev main_v221 : Ref sig .tc := ⟨.hbm, 333, rfl⟩
abbrev main_v222 : Ref sig .tc := ⟨.hbm, 334, rfl⟩
abbrev main_v223 : Ref sig .tc := ⟨.hbm, 335, rfl⟩
abbrev main_cst_34 : Ref sig .tc := ⟨.hbm, 336, rfl⟩
abbrev main_v224 : Ref sig .tc := ⟨.hbm, 337, rfl⟩
abbrev main_v225 : Ref sig .tc := ⟨.hbm, 338, rfl⟩
abbrev main_v226 : Ref sig .tc := ⟨.hbm, 339, rfl⟩
abbrev main_c_35 : Ref sig .tc := ⟨.hbm, 340, rfl⟩
abbrev main_v227 : Ref sig .tc := ⟨.hbm, 341, rfl⟩
abbrev main_v228 : Ref sig .tc := ⟨.hbm, 342, rfl⟩
abbrev main_c_36 : Ref sig .tc := ⟨.hbm, 343, rfl⟩
abbrev main_v229 : Ref sig .tc := ⟨.hbm, 344, rfl⟩
abbrev main_v230 : Ref sig .tc := ⟨.hbm, 345, rfl⟩
abbrev main_v231 : Ref sig .tc := ⟨.hbm, 346, rfl⟩
abbrev main_v232 : Ref sig .tc := ⟨.hbm, 347, rfl⟩
abbrev main_v233 : Ref sig .tc := ⟨.hbm, 348, rfl⟩
abbrev main_v234 : Ref sig .tc := ⟨.hbm, 349, rfl⟩
abbrev main_v235 : Ref sig .tc := ⟨.hbm, 350, rfl⟩
abbrev main_v236 : Ref sig .tc := ⟨.hbm, 351, rfl⟩
abbrev main_v237 : Ref sig .tc := ⟨.hbm, 352, rfl⟩
abbrev main_v238 : Ref sig .tc := ⟨.hbm, 353, rfl⟩
abbrev main_v239 : Ref sig .tc := ⟨.hbm, 354, rfl⟩
abbrev main_c_37 : Ref sig .tc := ⟨.hbm, 355, rfl⟩
abbrev main_v240 : Ref sig .tc := ⟨.hbm, 356, rfl⟩
abbrev main_v241 : Ref sig .tc := ⟨.hbm, 357, rfl⟩
abbrev main_c_38 : Ref sig .tc := ⟨.hbm, 358, rfl⟩
abbrev main_v242 : Ref sig .tc := ⟨.hbm, 359, rfl⟩
abbrev main_v243 : Ref sig .tc := ⟨.hbm, 360, rfl⟩
abbrev main_v244 : Ref sig .tc := ⟨.hbm, 361, rfl⟩
abbrev main_v245 : Ref sig .tc := ⟨.hbm, 362, rfl⟩
abbrev main_v246 : Ref sig .tc := ⟨.hbm, 363, rfl⟩
abbrev main_v247 : Ref sig .tc := ⟨.hbm, 364, rfl⟩
abbrev main_v248 : Ref sig .tc := ⟨.hbm, 365, rfl⟩
abbrev main_c_39 : Ref sig .tc := ⟨.hbm, 366, rfl⟩
abbrev main_v249 : Ref sig .tc := ⟨.hbm, 367, rfl⟩
abbrev main_v250 : Ref sig .tc := ⟨.hbm, 368, rfl⟩
abbrev main_c_40 : Ref sig .tc := ⟨.hbm, 369, rfl⟩
abbrev main_v251 : Ref sig .tc := ⟨.hbm, 370, rfl⟩
abbrev main_v252 : Ref sig .tc := ⟨.hbm, 371, rfl⟩
abbrev main_v253 : Ref sig .tc := ⟨.hbm, 372, rfl⟩
abbrev main_v254 : Ref sig .tc := ⟨.hbm, 373, rfl⟩
abbrev main_v255 : Ref sig .tc := ⟨.hbm, 374, rfl⟩
abbrev main_v256 : Ref sig .tc := ⟨.hbm, 375, rfl⟩
abbrev main_v257 : Ref sig .tc := ⟨.hbm, 376, rfl⟩
abbrev main_v258 : Ref sig .tc := ⟨.hbm, 377, rfl⟩
abbrev main_v259 : Ref sig .tc := ⟨.hbm, 378, rfl⟩
abbrev main_v260 : Ref sig .tc := ⟨.hbm, 379, rfl⟩
abbrev main_v261 : Ref sig .tc := ⟨.hbm, 380, rfl⟩
abbrev main_c_41 : Ref sig .tc := ⟨.hbm, 381, rfl⟩
abbrev main_v262 : Ref sig .tc := ⟨.hbm, 382, rfl⟩
abbrev main_v263 : Ref sig .tc := ⟨.hbm, 383, rfl⟩
abbrev main_c_42 : Ref sig .tc := ⟨.hbm, 384, rfl⟩
abbrev main_v264 : Ref sig .tc := ⟨.hbm, 385, rfl⟩
abbrev main_v265 : Ref sig .tc := ⟨.hbm, 386, rfl⟩
abbrev main_v266 : Ref sig .tc := ⟨.hbm, 387, rfl⟩
abbrev main_v267 : Ref sig .tc := ⟨.hbm, 388, rfl⟩
abbrev main_v268 : Ref sig .tc := ⟨.hbm, 389, rfl⟩
abbrev main_v269 : Ref sig .tc := ⟨.hbm, 390, rfl⟩

abbrev nD : Nat := 1
abbrev τ : Topo := Topo.v7x

variable {F : FTy → Type} [FloatOps F]

abbrev main_while0_count : Scf.Loop 32 := ⟨0#32, 2048#32, 1#32⟩
-- ==== Proof.Region0.lean ====
/- Region 0, the input projection with its convolution and gates: the body's triple and the proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off the array as the region finds it. -/
def blk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

abbrev r0_0 : Rect S2048x1024 := Rect.unit (s := S2048x1024) ![0, 0] S1024x1024.size inb_S2048x1024_S1024x1024_0_0
abbrev r0_1 : Rect S2048x1024 := Rect.unit (s := S2048x1024) ![1024, 0] S1024x1024.size inb_S2048x1024_S1024x1024_1024_0
abbrev r0_2 : Rect S2x512x1024 := Rect.unit (s := S2x512x1024) ![0, 0, 0] S1x512x1024.size inb_S2x512x1024_S1x512x1024_0_0_0
abbrev r0_3 : Rect S2x512x1024 := Rect.unit (s := S2x512x1024) ![1, 0, 0] S1x512x1024.size inb_S2x512x1024_S1x512x1024_1_0_0
abbrev r0_4 : Rect S1x512 := Rect.unit (s := S1x512) ![0, 0] S1x512.size inb_S1x512_S1x512_0_0
abbrev r0_5 : Rect S4x512 := Rect.unit (s := S4x512) ![3, 0] S1x512.size inb_S4x512_S1x512_3_0
abbrev r0_6 : Rect S4x512 := Rect.unit (s := S4x512) ![0, 0] S1x512.size inb_S4x512_S1x512_0_0
abbrev r0_7 : Rect S4x512 := Rect.unit (s := S4x512) ![1, 0] S1x512.size inb_S4x512_S1x512_1_0
abbrev r0_8 : Rect S4x512 := Rect.unit (s := S4x512) ![2, 0] S1x512.size inb_S4x512_S1x512_2_0
abbrev r0_9 : Rect S2048x512 := Rect.unit (s := S2048x512) ![0, 0] S2048x512.size inb_S2048x512_S2048x512_0_0

/-- What the body leaves in window 5's buffer: the convolved, gated first half of the projection. -/
def out0_5 (x0 : Vec F S2048x1024 .f32) (x1 : Vec F S2x512x1024 .f32) (x2 : Vec F S2x512x1024 .f32) (x3 : Vec F S4x512 .f32) (x4 : Vec F S1x512 .f32) : Vec F S2048x512 .f32 :=
  View.canon [⟨r0_9, k0_pay1 (k0_pay5 (View.ld x0 r0_0) (View.ld x0 r0_1) (View.ld x1 r0_2) (View.ld x1 r0_3))
    (k0_pay6 (View.ld x0 r0_0) (View.ld x0 r0_1) (View.ld x1 r0_2) (View.ld x1 r0_3) (View.ld x4 r0_4) (View.ld x3 r0_5)
      (View.ld x3 r0_6) (View.ld x3 r0_7)) (k0_pay7 (F := F)) (View.ld x3 r0_8)⟩]

/-- What the body leaves in window 6's buffer: the gate. -/
def out0_6 (x0 : Vec F S2048x1024 .f32) (x1 : Vec F S2x512x1024 .f32) (x2 : Vec F S2x512x1024 .f32) (x3 : Vec F S4x512 .f32) (x4 : Vec F S1x512 .f32) : Vec F S2048x512 .f32 :=
  View.canon [⟨r0_9, k0_pay2 (k0_pay3 (View.ld x0 r0_0)) (k0_pay4 (View.ld x0 r0_1)) (View.ld x2 r0_2) (View.ld x2 r0_3)⟩]

/-- The one store covers the buffer. -/
theorem cover0_5 (p0 : Vec F S2048x512 .f32) (y : S2048x512.Idx) :
    ∃ pc ∈ ([⟨r0_9, p0⟩] : List (View.Piece (Elt F) S2048x512 .f32)), y ∈ pc.1.set :=
  View.cover_of_tiled [⟨r0_9, p0⟩] S2048x512.size (by rfl) y

/-- The one store covers the buffer. -/
theorem cover0_6 (p0 : Vec F S2048x512 .f32) (y : S2048x512.Idx) :
    ∃ pc ∈ ([⟨r0_9, p0⟩] : List (View.Piece (Elt F) S2048x512 .f32)), y ∈ pc.1.set :=
  View.cover_of_tiled [⟨r0_9, p0⟩] S2048x512.size (by rfl) y

set_option maxHeartbeats 1000000 in
/-- The kernel body leaves its inputs' staging buffers as they were and each output's at the function above
    of them, whatever the output buffers held. -/
theorem body0 (c : Dev nD) (E : Set ℕ) (i : grid0.Coords) (a1 : Memref sig .tc .vmem S2048x1024 .f32) (h1 : a1.IsWhole) (a2 : Memref sig .tc .vmem S2x512x1024 .f32) (h2 : a2.IsWhole) (a3 : Memref sig .tc .vmem S2x512x1024 .f32) (h3 : a3.IsWhole) (a4 : Memref sig .tc .vmem S4x512 .f32) (h4 : a4.IsWhole) (a5 : Memref sig .tc .vmem S1x512 .f32) (h5 : a5.IsWhole) (a6 : Memref sig .tc .vmem S2048x512 .f32) (h6 : a6.IsWhole) (a7 : Memref sig .tc .vmem S2048x512 .f32) (h7 : a7.IsWhole)
    (x0 : Vec F S2048x1024 .f32) (x1 : Vec F S2x512x1024 .f32) (x2 : Vec F S2x512x1024 .f32) (x3 : Vec F S4x512 .f32) (x4 : Vec F S1x512 .f32) (K : PUnit → sProp 𝕄) :
    iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ (∃ d, owns (c : Thread nD τ) a6 fullShare d) ∗ (∃ d, owns (c : Thread nD τ) a7 fullShare d)
        ∗ (iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare (out0_5 x0 x1 x2 x3 x4) ∗ owns (c : Thread nD τ) a7 fullShare (out0_6 x0 x1 x2 x3 x4)) -∗ K ⟨⟩))
      ⊢ wp frame (wpE (defs₀ (F := F)) Variants.none c none) E (cc0__inproj_kernel i a1 h1 a2 h2 a3 h3 a4 h4 a5 h5 a6 h6 a7 h7) K := by
  simp only [cc0__inproj_kernel_eq_skeleton]; unfold cc0__inproj_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-- The region's proof data: arrays as found, an input's buffer keeps its block, an output's holds the body's result. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => out0_5 (blk0 V c 0 t) (blk0 V c 1 t) (blk0 V c 2 t) (blk0 V c 3 t) (blk0 V c 4 t)
    | ⟨6, _⟩ => out0_6 (blk0 V c 0 t) (blk0 V c 1 t) (blk0 V c 2 t) (blk0 V c 3 t) (blk0 V c 4 t)
  Φ _ := Pipeline.ΦA spec0 c
  q _ := fullShare
  owed _ := 0

/-- The arrays of the proof data are the contents at entry. -/
theorem arr0 (c : Dev nD) (w : Fin cfg0.W) : (dat0 V c).A w = V c (Pipeline.arrRef spec0 w) := by
  dsimp only [dat0]

/-- The body leaves input window 0 its block. -/
theorem after0_0 (c : Dev nD) (t : Fin cfg0.N) : (dat0 V c).after 0 t = blk0 V c 0 t := by dsimp only [dat0]
/-- The body leaves input window 1 its block. -/
theorem after0_1 (c : Dev nD) (t : Fin cfg0.N) : (dat0 V c).after 1 t = blk0 V c 1 t := by dsimp only [dat0]
/-- The body leaves input window 2 its block. -/
theorem after0_2 (c : Dev nD) (t : Fin cfg0.N) : (dat0 V c).after 2 t = blk0 V c 2 t := by dsimp only [dat0]
/-- The body leaves input window 3 its block. -/
theorem after0_3 (c : Dev nD) (t : Fin cfg0.N) : (dat0 V c).after 3 t = blk0 V c 3 t := by dsimp only [dat0]
/-- The body leaves input window 4 its block. -/
theorem after0_4 (c : Dev nD) (t : Fin cfg0.N) : (dat0 V c).after 4 t = blk0 V c 4 t := by dsimp only [dat0]
/-- The body leaves output window 5 the point's result. -/
theorem after0_5 (c : Dev nD) (t : Fin cfg0.N) : (dat0 V c).after 5 t = out0_5 (blk0 V c 0 t) (blk0 V c 1 t) (blk0 V c 2 t) (blk0 V c 3 t) (blk0 V c 4 t) := by dsimp only [dat0]
/-- The body leaves output window 6 the point's result. -/
theorem after0_6 (c : Dev nD) (t : Fin cfg0.N) : (dat0 V c).after 6 t = out0_6 (blk0 V c 0 t) (blk0 V c 1 t) (blk0 V c 2 t) (blk0 V c 3 t) (blk0 V c 4 t) := by dsimp only [dat0]

/-- The body finds input window 0 at its block. -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [arr0]; try rfl) t d).trans
    (by unfold Dat.fetched Dat.blockOf blk0; rw [arr0]; try rfl)
/-- The body finds input window 1 at its block. -/
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [arr0]; try rfl) t d).trans
    (by unfold Dat.fetched Dat.blockOf blk0; rw [arr0]; try rfl)
/-- The body finds input window 2 at its block. -/
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [arr0]; try rfl) t d).trans
    (by unfold Dat.fetched Dat.blockOf blk0; rw [arr0]; try rfl)
/-- The body finds input window 3 at its block. -/
theorem before0_3 (c : Dev nD) (t : Fin cfg0.N) (d) : (dat0 V c).before 3 t d = blk0 V c 3 t :=
  ((dat0 V c).before_in_eq_fetched 3 rfl (fun _ => rfl) (fun _ _ _ => rfl)
    (fun t => by rw [after0_3]; unfold Dat.blockOf blk0; rw [arr0]; try rfl) t d).trans
    (by unfold Dat.fetched Dat.blockOf blk0; rw [arr0]; try rfl)
/-- The body finds input window 4 at its block. -/
theorem before0_4 (c : Dev nD) (t : Fin cfg0.N) (d) : (dat0 V c).before 4 t d = blk0 V c 4 t :=
  ((dat0 V c).before_in_eq_fetched 4 rfl (fun _ => rfl) (fun _ _ _ => rfl)
    (fun t => by rw [after0_4]; unfold Dat.blockOf blk0; rw [arr0]; try rfl) t d).trans
    (by unfold Dat.fetched Dat.blockOf blk0; rw [arr0]; try rfl)

/-- The body at any point of the grid, the windows one by one. -/
theorem point0 (c : Dev nD) (t : Fin cfg0.N) :
    iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))
      ⊢ wp frame (wpE (defs₀ (F := F)) Variants.none c none) Set.univ (bodyAt0 t) (fun _ =>
    iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))) := by
  unfold bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body0 c Set.univ (grid0.coords t) _ _ _ _ _ _ _ _ _ _ _ _ _ _ (blk0 V c 0 t) (blk0 V c 1 t) (blk0 V c 2 t) (blk0 V c 3 t) (blk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region. -/
theorem obl0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (point0 V c t) rfl .rfl fun _ => .rfl

end Cert.KernelIdeal.Own

end
-- ==== Proof.Region1.lean ====
/- Region 1, the projection to step size, B and C: the body's triple and the proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off the array as the region finds it. -/
def blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

abbrev r1_0 : Rect S2048x2048 := Rect.unit (s := S2048x2048) ![0, 0] S1024x2048.size inb_S2048x2048_S1024x2048_0_0
abbrev r1_1 : Rect S2x96x2048 := Rect.unit (s := S2x96x2048) ![0, 0, 0] S1x96x2048.size inb_S2x96x2048_S1x96x2048_0_0_0
abbrev r1_2 : Rect S2048x96 := Rect.unit (s := S2048x96) ![0, 0] S1024x96.size inb_S2048x96_S1024x96_0_0
abbrev r1_3 : Rect S2048x2048 := Rect.unit (s := S2048x2048) ![1024, 0] S1024x2048.size inb_S2048x2048_S1024x2048_1024_0
abbrev r1_4 : Rect S2x96x2048 := Rect.unit (s := S2x96x2048) ![1, 0, 0] S1x96x2048.size inb_S2x96x2048_S1x96x2048_1_0_0
abbrev r1_5 : Rect S2048x96 := Rect.unit (s := S2048x96) ![1024, 0] S1024x96.size inb_S2048x96_S1024x96_1024_0

/-- What the body leaves in the output's buffer: each half of the rows times its own weights. -/
def out1_2 (x0 : Vec F S2048x2048 .f32) (x1 : Vec F S2x96x2048 .f32) : Vec F S2048x96 .f32 :=
  View.canon [⟨r1_5, k1_pay2 (View.ld x0 r1_3) (View.ld x1 r1_4)⟩,
    ⟨r1_2, k1_pay1 (View.ld x0 r1_0) (View.ld x1 r1_1)⟩]

/-- The two stores cover the buffer. -/
theorem cover1_2 (p0 p1 : Vec F S1024x96 .f32) (y : S2048x96.Idx) :
    ∃ pc ∈ ([⟨r1_5, p0⟩, ⟨r1_2, p1⟩] : List (View.Piece (Elt F) S2048x96 .f32)), y ∈ pc.1.set :=
  View.cover_of_tiled [⟨r1_5, p0⟩, ⟨r1_2, p1⟩] S1024x96.size (by rfl) y

set_option maxHeartbeats 1000000 in
/-- The kernel body leaves its inputs' staging buffers as they were and each output's at the function above
    of them, whatever the output buffers held. -/
theorem body1 (c : Dev nD) (E : Set ℕ) (i : grid1.Coords) (a1 : Memref sig .tc .vmem S2048x2048 .f32) (h1 : a1.IsWhole) (a2 : Memref sig .tc .vmem S2x96x2048 .f32) (h2 : a2.IsWhole) (a3 : Memref sig .tc .vmem S2048x96 .f32) (h3 : a3.IsWhole)
    (x0 : Vec F S2048x2048 .f32) (x1 : Vec F S2x96x2048 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1 ∗ owns (c : Thread nD τ) a3 fullShare (out1_2 x0 x1)) -∗ K ⟨⟩))
      ⊢ wp frame (wpE (defs₀ (F := F)) Variants.none c none) E (cc1__xdbl_kernel i a1 h1 a2 h2 a3 h3) K := by
  simp only [cc1__xdbl_kernel_eq_skeleton]; unfold cc1__xdbl_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _ _)

/-- The region's proof data: arrays as found, an input's buffer keeps its block, an output's holds the body's result. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => out1_2 (blk1 V c 0 t) (blk1 V c 1 t)
  Φ _ := Pipeline.ΦA spec1 c
  q _ := fullShare
  owed _ := 0

/-- The arrays of the proof data are the contents at entry. -/
theorem arr1 (c : Dev nD) (w : Fin cfg1.W) : (dat1 V c).A w = V c (Pipeline.arrRef spec1 w) := by
  dsimp only [dat1]

/-- The body leaves input window 0 its block. -/
theorem after1_0 (c : Dev nD) (t : Fin cfg1.N) : (dat1 V c).after 0 t = blk1 V c 0 t := by dsimp only [dat1]
/-- The body leaves input window 1 its block. -/
theorem after1_1 (c : Dev nD) (t : Fin cfg1.N) : (dat1 V c).after 1 t = blk1 V c 1 t := by dsimp only [dat1]
/-- The body leaves output window 2 the point's result. -/
theorem after1_2 (c : Dev nD) (t : Fin cfg1.N) : (dat1 V c).after 2 t = out1_2 (blk1 V c 0 t) (blk1 V c 1 t) := by dsimp only [dat1]

/-- The body finds input window 0 at its block. -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [arr1]; try rfl) t d).trans
    (by unfold Dat.fetched Dat.blockOf blk1; rw [arr1]; try rfl)
/-- The body finds input window 1 at its block. -/
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [arr1]; try rfl) t d).trans
    (by unfold Dat.fetched Dat.blockOf blk1; rw [arr1]; try rfl)

/-- The body at any point of the grid, the windows one by one. -/
theorem point1 (c : Dev nD) (t : Fin cfg1.N) :
    iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))
      ⊢ wp frame (wpE (defs₀ (F := F)) Variants.none c none) Set.univ (bodyAt1 t) (fun _ =>
    iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))) := by
  unfold bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (body1 c Set.univ (grid1.coords t) _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region. -/
theorem obl1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t by
    unfold defs₀; rw [Defs.onTc_tc]]
  exact triple_restated (point1 V c t) rfl .rfl fun _ => .rfl

end Cert.KernelIdeal.Own

end
-- ==== Proof.Scan.lean ====
/- Region 2, the selective scan: what one grid point of the body computes, as plain functions, and the body's triple. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.ValueIdx
public import Idealize.ShloMosaic.Lib.WholeRead
public import Idealize.ShloMosaic.Lib.VecWindow

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The pure functions -/

/-- Row `j` of a block of 256 rows; past the last row, the last. -/
def row (X : Vec F S256x512 .f32) (j : ℕ) : Vec F S1x512 .f32 :=
  fun q => X (ix2 (⟨min j 255, by omega⟩ : Fin 256) (q 1))

/-- The sixteen rows of step `j` of a block of 4096 rows; past the last step, the last step's. -/
def rows16 (X : Vec F S4096x128 .f32) (j : ℕ) : Vec F S16x128 .f32 :=
  fun q => X (ix2 (⟨16 * min j 255 + (q 0).val, by have : (q 0).val < 16 := (q 0).isLt; omega⟩ : Fin 4096) (q 1))

/-- The scan's state after `j` steps from `h0`. -/
def scanSt (av zz : FVec F S16x512 .f32) (dt du : Vec F S256x512 .f32) (b : Vec F S4096x128 .f32)
    (h0 : Vec F S16x512 .f32) : ℕ → Vec F S16x512 .f32
  | 0 => h0
  | j + 1 => k2_pay12 (scanSt av zz dt du b h0 j) (k2_pay9 av zz (row dt j)) (k2_pay10 (rows16 b j) (row du j))

/-- The row of results of step `j`. -/
def scanRow (av zz : FVec F S16x512 .f32) (dt du : Vec F S256x512 .f32) (b cc : Vec F S4096x128 .f32)
    (h0 : Vec F S16x512 .f32) (j : ℕ) : FVec F S1x512 .f32 :=
  k2_pay13 (scanSt av zz dt du b h0 j) (k2_pay9 av zz (row dt j)) (k2_pay10 (rows16 b j) (row du j)) (k2_pay11 (rows16 cc j))

/-- The block of results of the 256 steps. -/
def scanBlk (av zz : FVec F S16x512 .f32) (dt du : Vec F S256x512 .f32) (b cc : Vec F S4096x128 .f32)
    (h0 : Vec F S16x512 .f32) : Vec F S256x512 .f32 :=
  fun q => scanRow av zz dt du b cc h0 (q 0).val (ix2 (0 : Fin 1) (q 1))

/-! ## The loop -/

/-- The loop makes 256 trips. -/
theorem trips_eq : k2_t1_loop.trips = 256 := by decide +kernel

/-- The load of one row reads that row. -/
theorem readAt_row (v : View sig .tc .vmem S256x512 .f32) (X : v.ty.Contents (Elt F)) (x : Vec F S256x512 .f32) (h : v.read (Elt F) X = x)
    (j : ℕ) (off : Fin 2 → ℕ) (ho : off = ![min j 255, 0]) (inb : ∀ a, off a + S1x512.size a ≤ S256x512.size a) :
    v.readAt (Elt F) (Rect.unit (s := S256x512) off S1x512.size inb).toLoadRect X = row x j := by
  subst ho h
  funext q
  refine congrArg (v.read (Elt F) X) (funext fun a => Fin.ext ?_)
  have h0 : (q 0).val = 0 := by have : (q 0).val < 1 := (q 0).isLt; omega
  fin_cases a
  · show min j 255 + 1 * (q 0).val = min j 255
    omega
  · show 0 + 1 * (q 1).val = (q 1).val
    omega

/-- The load of a token's sixteen rows reads those rows. -/
theorem readAt_rows16 (v : View sig .tc .vmem S4096x128 .f32) (X : v.ty.Contents (Elt F)) (x : Vec F S4096x128 .f32) (h : v.read (Elt F) X = x)
    (j : ℕ) (off : Fin 2 → ℕ) (ho : off = ![16 * min j 255, 0]) (inb : ∀ a, off a + S16x128.size a ≤ S4096x128.size a) :
    v.readAt (Elt F) (Rect.unit (s := S4096x128) off S16x128.size inb).toLoadRect X = rows16 x j := by
  subst ho h
  funext q
  refine congrArg (v.read (Elt F) X) (funext fun a => Fin.ext ?_)
  fin_cases a
  · show 16 * min j 255 + 1 * (q 0).val = 16 * min j 255 + (q 0).val
    omega
  · show 0 + 1 * (q 1).val = (q 1).val
    omega

/-- What a trip stores, at any place of its row. -/
theorem row_piece (av zz : FVec F S16x512 .f32) (dt du : Vec F S256x512 .f32) (b cc : Vec F S4096x128 .f32)
    (h0 : Vec F S16x512 .f32) (k : ℕ) (off : Fin 2 → ℕ) (ho : off = ![k, 0]) (inb : ∀ a, off a + S1x512.size a ≤ S256x512.size a)
    (x : (Rect.unit (s := S256x512) off S1x512.size inb).shape.Idx) :
    scanRow av zz dt du b cc h0 k x = scanBlk av zz dt du b cc h0 ((Rect.unit (s := S256x512) off S1x512.size inb).emb x) := by
  subst ho
  have h0' : (x 0).val = 0 := by have : (x 0).val < 1 := (x 0).isLt; omega
  unfold scanBlk
  have e0 : (((Rect.unit (s := S256x512) ![k, 0] S1x512.size inb).emb x) 0).val = k := by
    show k + 1 * (x 0).val = k
    omega
  rw [e0]
  refine congrArg _ (funext fun a => Fin.ext ?_)
  fin_cases a
  · exact h0'
  · show (x 1).val = 0 + 1 * (x 1).val
    omega

/-- A place in a row lies in the piece that covers the row. -/
theorem row_mem (k : ℕ) (off : Fin 2 → ℕ) (ho : off = ![k, 0]) (inb : ∀ a, off a + S1x512.size a ≤ S256x512.size a)
    (y : S256x512.Idx) (hy : (y 0).val = k) : y ∈ (Rect.unit (s := S256x512) off S1x512.size inb).set := by
  subst ho
  rw [Rect.mem_set_unit]
  intro a
  have h1 : (y 1).val < 512 := (y 1).isLt
  fin_cases a
  · show k ≤ (y 0).val ∧ (y 0).val < k + 1
    omega
  · show 0 ≤ (y 1).val ∧ (y 1).val < 0 + 512
    omega

/-- The loop's carried values before trip `k`, and the rows it has written. -/
theorem st_eq (𝒱 : Variants) (c : Dev nD) (bd : Option 𝒱.V) (i : grid2.Coords) (arg2 : Memref sig .tc .vmem S256x64 .f32) (harg2 : arg2.IsWhole) (arg3 : Memref sig .tc .vmem S1x512x64 .f32) (harg3 : arg3.IsWhole) (arg4 : Memref sig .tc .vmem S1x1x512 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S16x512 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S16x512 .f32) (harg14 : arg14.IsWhole)
    (arg1 : BitVec 32) (av zz : FVec F S16x512 .f32) (X5 : BufTy.Contents (Elt F) arg5.view.ty) (X6 : BufTy.Contents (Elt F) arg6.view.ty)
    (X12 : BufTy.Contents (Elt F) arg12.view.ty) (X13 : BufTy.Contents (Elt F) arg13.view.ty)
    (b cc : Vec F S4096x128 .f32) (dt du : Vec F S256x512 .f32) (h0 : Vec F S16x512 .f32)
    (e5 : arg5.view.read (Elt F) X5 = b) (e6 : arg6.view.read (Elt F) X6 = cc)
    (e12 : arg12.view.read (Elt F) X12 = dt) (e13 : arg13.view.read (Elt F) X13 = du) (k : ℕ) (hk : k ≤ 256) :
    (st_k2_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 av zz X5 X6 X12 X13
        (h0, k2_pay9 av zz (row dt 0), k2_pay10 (rows16 b 0) (row du 0), k2_pay11 (rows16 cc 0)) k).1
      = (scanSt av zz dt du b h0 k, k2_pay9 av zz (row dt k), k2_pay10 (rows16 b k) (row du k), k2_pay11 (rows16 cc k))
    ∧ (∀ p ∈ (st_k2_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 av zz X5 X6 X12 X13
        (h0, k2_pay9 av zz (row dt 0), k2_pay10 (rows16 b 0) (row du 0), k2_pay11 (rows16 cc 0)) k).2,
        ∀ x : p.1.shape.Idx, p.2 x = scanBlk av zz dt du b cc h0 (p.1.emb x))
    ∧ (∀ y : S256x512.Idx, (y 0).val < k → ∃ p ∈ (st_k2_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 av zz X5 X6 X12 X13
        (h0, k2_pay9 av zz (row dt 0), k2_pay10 (rows16 b 0) (row du 0), k2_pay11 (rows16 cc 0)) k).2, y ∈ p.1.set) := by
  induction k with
  | zero => exact ⟨rfl, fun p hp => absurd hp List.not_mem_nil, fun y hy => absurd hy (by omega)⟩
  | succ k ih =>
    obtain ⟨i1, i2, i3⟩ := ih (by omega)
    have ht : k < k2_t1_loop.trips := by rw [trips_eq]; omega
    rw [st_k2_t1_succ (k := ⟨k, ht⟩)]
    unfold tripR_k2_t1 tripL_k2_t1 trip_k2_t1
    dsimp only
    rw [i1]
    dsimp only
    have o2 : k2_off2 ⟨k, ht⟩ = ![min (k + 1) 255, 0] := k2_off2_eq ⟨k, ht⟩
    have o3 : k2_off3 ⟨k, ht⟩ = ![16 * min (k + 1) 255, 0] := k2_off3_eq ⟨k, ht⟩
    rw [readAt_row _ X12 dt e12 (k + 1) _ o2, readAt_row _ X13 du e13 (k + 1) _ o2,
      readAt_rows16 _ X5 b e5 (k + 1) _ o3, readAt_rows16 _ X6 cc e6 (k + 1) _ o3]
    refine ⟨rfl, fun p hp x => ?_, fun y hy => ?_⟩
    · rcases List.mem_cons.mp hp with rfl | hp
      · exact row_piece av zz dt du b cc h0 k _ (k2_off1_eq ⟨k, ht⟩) (k2_off1_inb ⟨k, ht⟩) x
      · exact i2 p hp x
    · by_cases hy' : (y 0).val < k
      · obtain ⟨p, hp, hm⟩ := i3 y hy'
        exact ⟨p, List.mem_cons_of_mem _ hp, hm⟩
      · refine ⟨_, List.mem_cons_self, ?_⟩
        exact row_mem k _ (k2_off1_eq ⟨k, ht⟩) (k2_off1_inb ⟨k, ht⟩) y (by omega)
/-- The carried state after the loop. -/
theorem loop_state (𝒱 : Variants) (c : Dev nD) (bd : Option 𝒱.V) (i : grid2.Coords) (arg2 : Memref sig .tc .vmem S256x64 .f32) (harg2 : arg2.IsWhole) (arg3 : Memref sig .tc .vmem S1x512x64 .f32) (harg3 : arg3.IsWhole) (arg4 : Memref sig .tc .vmem S1x1x512 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S16x512 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S16x512 .f32) (harg14 : arg14.IsWhole)
    (arg1 : BitVec 32) (av zz : FVec F S16x512 .f32) (X5 : BufTy.Contents (Elt F) arg5.view.ty) (X6 : BufTy.Contents (Elt F) arg6.view.ty)
    (X12 : BufTy.Contents (Elt F) arg12.view.ty) (X13 : BufTy.Contents (Elt F) arg13.view.ty)
    (dt du : Vec F S256x512 .f32) (h0 : Vec F S16x512 .f32)
    (av' : FVec F S16x512 .f32) (hav : av' = av)
    (e12 : arg12.view.read (Elt F) X12 = dt) (e13 : arg13.view.read (Elt F) X13 = du)
    (v40 : Vec F S16x512 .f32) (v41 v48 : Vec F S1x512 .f32) (v45 v51 : Vec F S16x128 .f32) (n : ℕ) (hn : n = 256)
    (h40 : v40 = h0) (h41 : v41 = row dt 0) (h48 : v48 = row du 0) (h45 : v45 = rows16 (arg5.view.read (Elt F) X5) 0)
    (h51 : v51 = rows16 (arg6.view.read (Elt F) X6) 0) (f9 : BufTy.Contents (Elt F) arg11.view.ty) :
    (st_k2_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 av' zz X5 X6 X12 X13 (v40, k2_pay9 av' zz v41, k2_pay10 v45 v48, k2_pay11 v51) n).1.1 = scanSt av zz dt du (arg5.view.read (Elt F) X5) h0 256 := by
  subst hav hn h40 h41 h48 h45 h51
  obtain ⟨i1, i2, i3⟩ := st_eq 𝒱 c bd i arg2 harg2 arg3 harg3 arg4 harg4 arg5 harg5 arg6 harg6 arg7 harg7 arg8 harg8 arg9 harg9 arg10 harg10 arg11 harg11 arg12 harg12 arg13 harg13 arg14 harg14 arg1 av' zz X5 X6 X12 X13 _ _ dt du v40 rfl rfl e12 e13 256 le_rfl
  rw [i1]

/-- What the output's buffer reads after the loop. -/
theorem loop_rows (𝒱 : Variants) (c : Dev nD) (bd : Option 𝒱.V) (i : grid2.Coords) (arg2 : Memref sig .tc .vmem S256x64 .f32) (harg2 : arg2.IsWhole) (arg3 : Memref sig .tc .vmem S1x512x64 .f32) (harg3 : arg3.IsWhole) (arg4 : Memref sig .tc .vmem S1x1x512 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S16x512 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S16x512 .f32) (harg14 : arg14.IsWhole)
    (arg1 : BitVec 32) (av zz : FVec F S16x512 .f32) (X5 : BufTy.Contents (Elt F) arg5.view.ty) (X6 : BufTy.Contents (Elt F) arg6.view.ty)
    (X12 : BufTy.Contents (Elt F) arg12.view.ty) (X13 : BufTy.Contents (Elt F) arg13.view.ty)
    (dt du : Vec F S256x512 .f32) (h0 : Vec F S16x512 .f32)
    (av' : FVec F S16x512 .f32) (hav : av' = av)
    (e12 : arg12.view.read (Elt F) X12 = dt) (e13 : arg13.view.read (Elt F) X13 = du)
    (v40 : Vec F S16x512 .f32) (v41 v48 : Vec F S1x512 .f32) (v45 v51 : Vec F S16x128 .f32) (n : ℕ) (hn : n = 256)
    (h40 : v40 = h0) (h41 : v41 = row dt 0) (h48 : v48 = row du 0) (h45 : v45 = rows16 (arg5.view.read (Elt F) X5) 0)
    (h51 : v51 = rows16 (arg6.view.read (Elt F) X6) 0) (f9 : BufTy.Contents (Elt F) arg11.view.ty) :
    arg11.view.read (Elt F) (arg11.view.writes (Elt F) f9 (st_k2_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 av' zz X5 X6 X12 X13 (v40, k2_pay9 av' zz v41, k2_pay10 v45 v48, k2_pay11 v51) n).2)
      = scanBlk av zz dt du (arg5.view.read (Elt F) X5) (arg6.view.read (Elt F) X6) h0 := by
  subst hav hn h40 h41 h48 h45 h51
  obtain ⟨i1, i2, i3⟩ := st_eq 𝒱 c bd i arg2 harg2 arg3 harg3 arg4 harg4 arg5 harg5 arg6 harg6 arg7 harg7 arg8 harg8 arg9 harg9 arg10 harg10 arg11 harg11 arg12 harg12 arg13 harg13 arg14 harg14 arg1 av' zz X5 X6 X12 X13 _ _ dt du v40 rfl rfl e12 e13 256 le_rfl
  funext y
  exact View.read_writes_apply_of_pieces _ _ _ _ i2 y (i3 y (y 0).isLt)

/-- What the body leaves in the output's buffer. -/
def out2_9 (x0 : Vec F S256x64 .f32) (x1 : Vec F S1x512x64 .f32) (x2 : Vec F S1x1x512 .f32) (x3 x4 : Vec F S4096x128 .f32)
    (x5 : Vec F S16x512 .f32) (x6 : Vec F S256x512 .f32) (x7 : Vec F S1x512 .f32) (x8 : Vec F S256x512 .f32)
    (h0 : Vec F S16x512 .f32) : Vec F S256x512 .f32 :=
  k2_pay1 (k2_pay18 (scanBlk (k2_pay5 x5) (k2_pay6 (F := F)) (k2_pay3 x0 x1 x2) (k2_pay4 x0 x1 x2 x6) x3 x4 h0) x6 x7) x8

/-- What the body leaves in the scratch that carries the state. -/
def st2 (x0 : Vec F S256x64 .f32) (x1 : Vec F S1x512x64 .f32) (x2 : Vec F S1x1x512 .f32) (x3 : Vec F S4096x128 .f32)
    (x5 : Vec F S16x512 .f32) (x6 : Vec F S256x512 .f32) (h0 : Vec F S16x512 .f32) : Vec F S16x512 .f32 :=
  k2_pay17 (scanSt (k2_pay5 x5) (k2_pay6 (F := F)) (k2_pay3 x0 x1 x2) (k2_pay4 x0 x1 x2 x6) x3 h0 256)

/-- The condition of the body's reset of the state. -/
abbrev reset (i : grid2.Coords) : Prop :=
  (Scalar.cmpi .ne (Scalar.extui (Scalar.cmpi .eq (BitVec.ofNat 32 (i 1).val) 0#32)) 0#32) = 1#1

/-- It holds at the first of the eight points of a run. -/
theorem reset_iff : ∀ t : Fin cfg2.N, reset (grid2.coords t) ↔ t.val % 8 = 0 :=
  (fun t => by
    have ht : t.val < 32 := Nat.lt_of_lt_of_eq t.isLt N_2
    have e1 : (grid2.coords t 1).val = t.val / 1 % 8 := Pipeline.Grid.coords_val t 1 (by decide) rfl
    simp only [reset, e1]
    word_cmp
   : ∀ t : Fin grid2.N, reset (grid2.coords t) ↔ t.val % 8 = 0)

set_option maxHeartbeats 4000000 in
/-- The kernel body leaves its inputs' staging buffers as they were, the output's at the function above, and the state
    at the state after its 256 steps, started from zero at the first point of a run and from the state it finds at any other. -/
theorem body2 (c : Dev nD) (E : Set ℕ) (i : grid2.Coords) (arg2 : Memref sig .tc .vmem S256x64 .f32) (harg2 : arg2.IsWhole) (arg3 : Memref sig .tc .vmem S1x512x64 .f32) (harg3 : arg3.IsWhole) (arg4 : Memref sig .tc .vmem S1x1x512 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S16x512 .f32) (harg7 : arg7.IsWhole) (arg8 : Memref sig .tc .vmem S256x512 .f32) (harg8 : arg8.IsWhole) (arg9 : Memref sig .tc .vmem S1x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S16x512 .f32) (harg14 : arg14.IsWhole)
    (x0 : Vec F S256x64 .f32) (x1 : Vec F S1x512x64 .f32) (x2 : Vec F S1x1x512 .f32) (x3 x4 : Vec F S4096x128 .f32)
    (x5 : Vec F S16x512 .f32) (x6 : Vec F S256x512 .f32) (x7 : Vec F S1x512 .f32) (x8 : Vec F S256x512 .f32)
    (hp h0 : Vec F S16x512 .f32) (hc : (reset i ∧ h0 = k2_pay8 (F := F)) ∨ (¬ reset i ∧ h0 = hp)) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d)
        ∗ (∃ d, owns (c : Thread nD τ) arg13 fullShare d) ∗ owns (c : Thread nD τ) arg14 fullShare hp
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out2_9 x0 x1 x2 x3 x4 x5 x6 x7 x8 h0)
          ∗ (∃ d, owns (c : Thread nD τ) arg12 fullShare d) ∗ (∃ d, owns (c : Thread nD τ) arg13 fullShare d)
          ∗ owns (c : Thread nD τ) arg14 fullShare (st2 x0 x1 x2 x3 x5 x6 h0)) -∗ K ⟨⟩))
      ⊢ wp frame (wpE (defs₀ (F := F)) Variants.none c none) E (cc2__scan_kernel i arg2 harg2 arg3 harg3 arg4 harg4 arg5 harg5 arg6 harg6 arg7 harg7 arg8 harg8 arg9 harg9 arg10 harg10 arg11 harg11 arg12 harg12 arg13 harg13 arg14 harg14) K := by
  simp only [cc2__scan_kernel_eq_skeleton]; unfold cc2__scan_kernel_skel
  simp only [k2_part2_eq_skeleton, k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, Hk⟩
  subst hf0 hf1 hf2 hf3 hf4 hf5 hf6 hf7 hf8 hf12
  rcases hc with ⟨hc, rfl⟩ | ⟨hc, rfl⟩
  · sl_exec (disch := first | sl_exact hc)
    sl_step
    have e12 : ∀ g, arg12.view.read (Elt F) (arg12.view.writes (Elt F) g (body2.sl.H10_1 c arg2 arg3 arg4 f0 f1 f2))
        = k2_pay3 (arg2.view.read (Elt F) f0) (arg3.view.read (Elt F) f1) (arg4.view.read (Elt F) f2) := fun g => by
      unfold body2.sl.H10_1
      rw [View.read_writes_full, View.readAt_full, View.readAt_full, View.readAt_full]
    have e13 : ∀ g, arg13.view.read (Elt F) (arg13.view.writes (Elt F) g (body2.sl.H11_1 c arg2 arg3 arg4 arg8 f0 f1 f2 f6))
        = k2_pay4 (arg2.view.read (Elt F) f0) (arg3.view.read (Elt F) f1) (arg4.view.read (Elt F) f2) (arg8.view.read (Elt F) f6) := fun g => by
      unfold body2.sl.H11_1
      rw [View.read_writes_full, View.readAt_full, View.readAt_full, View.readAt_full, View.readAt_full]
    have hav : body2.sl.r c arg7 f5 = k2_pay5 (arg7.view.read (Elt F) f5) := by
      unfold body2.sl.r
      rw [View.readAt_full]
    iapply Hk
    isplitl [H0]
    · iexists f0; isplitr; · (ipureintro; rfl)
      iexact H0
    isplitl [H1]
    · iexists f1; isplitr; · (ipureintro; rfl)
      iexact H1
    isplitl [H2]
    · iexists f2; isplitr; · (ipureintro; rfl)
      iexact H2
    isplitl [H3]
    · iexists f3; isplitr; · (ipureintro; rfl)
      iexact H3
    isplitl [H4]
    · iexists f4; isplitr; · (ipureintro; rfl)
      iexact H4
    isplitl [H5]
    · iexists f5; isplitr; · (ipureintro; rfl)
      iexact H5
    isplitl [H6]
    · iexists f6; isplitr; · (ipureintro; rfl)
      iexact H6
    isplitl [H7]
    · iexists f7; isplitr; · (ipureintro; rfl)
      iexact H7
    isplitl [H8]
    · iexists f8; isplitr; · (ipureintro; rfl)
      iexact H8
    isplitl [H9]
    · iexists _; isplitr
      swap; · iexact H9
      ipureintro
      rw [View.read_writes_full]
      unfold out2_9
      refine congr (congrArg (k2_pay1 (F := F)) ?_) (View.readAt_full _ _ _)
      unfold body2.sl.r_1
      rw [View.readAt_full, View.readAt_full]
      refine congrArg (fun B => k2_pay18 (F := F) B _ _) ?_
      unfold body2.sl.v59
      rw [View.readAt_full]
      exact loop_rows _ _ _ _ _ _ _ _ _ _ _ _ _ _ _ _ _ _ _ _ _ _ _ _ _ _ _ _ _ _ _ _ _ _ _ _ _ _ _ _ _ hav
        (e12 _) (e13 _) _ _ _ _ _ _ trips_eq (by unfold body2.sl.v40; exact View.readAt_writes_full _ _ _ _ _ _)
        (by unfold body2.sl.v41; exact readAt_row _ _ _ (e12 _) 0 _ rfl _) (by unfold body2.sl.v48; exact readAt_row _ _ _ (e13 _) 0 _ rfl _)
        (readAt_rows16 _ _ _ rfl 0 _ rfl _) (readAt_rows16 _ _ _ rfl 0 _ rfl _) _
    isplitl [H10]
    · iexists _, _; isplitr
      swap; · iexact H10
      ipureintro; rfl
    isplitl [H11]
    · iexists _, _; isplitr
      swap; · iexact H11
      ipureintro; rfl
    iexists _; isplitr
    swap; · iexact H12
    ipureintro
    rw [View.read_writes_full]
    unfold st2
    refine congrArg (k2_pay17 (F := F)) ?_
    exact loop_state _ _ _ _ _ _ _ _ _ _ _ _ _ _ _ _ _ _ _ _ _ _ _ _ _ _ _ _ _ _ _ _ _ _ _ _ _ _ _ _ _ hav
        (e12 _) (e13 _) _ _ _ _ _ _ trips_eq (by unfold body2.sl.v40; exact View.readAt_writes_full _ _ _ _ _ _)
        (by unfold body2.sl.v41; exact readAt_row _ _ _ (e12 _) 0 _ rfl _) (by unfold body2.sl.v48; exact readAt_row _ _ _ (e13 _) 0 _ rfl _)
        (readAt_rows16 _ _ _ rfl 0 _ rfl _) (readAt_rows16 _ _ _ rfl 0 _ rfl _) arg11.view.junk
  · sl_exec (disch := first | sl_exact hc)
    sl_step
    have e12 : ∀ g, arg12.view.read (Elt F) (arg12.view.writes (Elt F) g (body2.sl.H10_1_1 c arg2 arg3 arg4 f0 f1 f2))
        = k2_pay3 (arg2.view.read (Elt F) f0) (arg3.view.read (Elt F) f1) (arg4.view.read (Elt F) f2) := fun g => by
      unfold body2.sl.H10_1_1
      rw [View.read_writes_full, View.readAt_full, View.readAt_full, View.readAt_full]
    have e13 : ∀ g, arg13.view.read (Elt F) (arg13.view.writes (Elt F) g (body2.sl.H11_1_1 c arg2 arg3 arg4 arg8 f0 f1 f2 f6))
        = k2_pay4 (arg2.view.read (Elt F) f0) (arg3.view.read (Elt F) f1) (arg4.view.read (Elt F) f2) (arg8.view.read (Elt F) f6) := fun g => by
      unfold body2.sl.H11_1_1
      rw [View.read_writes_full, View.readAt_full, View.readAt_full, View.readAt_full, View.readAt_full]
    have hav : body2.sl.r_2 c arg7 f5 = k2_pay5 (arg7.view.read (Elt F) f5) := by
      unfold body2.sl.r_2
      rw [View.readAt_full]
    iapply Hk
    isplitl [H0]
    · iexists f0; isplitr; · (ipureintro; rfl)
      iexact H0
    isplitl [H1]
    · iexists f1; isplitr; · (ipureintro; rfl)
      iexact H1
    isplitl [H2]
    · iexists f2; isplitr; · (ipureintro; rfl)
      iexact H2
    isplitl [H3]
    · iexists f3; isplitr; · (ipureintro; rfl)
      iexact H3
    isplitl [H4]
    · iexists f4; isplitr; · (ipureintro; rfl)
      iexact H4
    isplitl [H5]
    · iexists f5; isplitr; · (ipureintro; rfl)
      iexact H5
    isplitl [H6]
    · iexists f6; isplitr; · (ipureintro; rfl)
      iexact H6
    isplitl [H7]
    · iexists f7; isplitr; · (ipureintro; rfl)
      iexact H7
    isplitl [H8]
    · iexists f8; isplitr; · (ipureintro; rfl)
      iexact H8
    isplitl [H9]
    · iexists _; isplitr
      swap; · iexact H9
      ipureintro
      rw [View.read_writes_full]
      unfold out2_9
      refine congr (congrArg (k2_pay1 (F := F)) ?_) (View.readAt_full _ _ _)
      unfold body2.sl.r_3
      rw [View.readAt_full, View.readAt_full]
      refine congrArg (fun B => k2_pay18 (F := F) B _ _) ?_
      unfold body2.sl.v59_1
      rw [View.readAt_full]
      exact loop_rows _ _ _ _ _ _ _ _ _ _ _ _ _ _ _ _ _ _ _ _ _ _ _ _ _ _ _ _ _ _ _ _ _ _ _ _ _ _ _ _ _ hav
        (e12 _) (e13 _) _ _ _ _ _ _ trips_eq (View.readAt_full _ _ _)
        (by unfold body2.sl.v41_1; exact readAt_row _ _ _ (e12 _) 0 _ rfl _) (by unfold body2.sl.v48_1; exact readAt_row _ _ _ (e13 _) 0 _ rfl _)
        (readAt_rows16 _ _ _ rfl 0 _ rfl _) (readAt_rows16 _ _ _ rfl 0 _ rfl _) _
    isplitl [H10]
    · iexists _, _; isplitr
      swap; · iexact H10
      ipureintro; rfl
    isplitl [H11]
    · iexists _, _; isplitr
      swap; · iexact H11
      ipureintro; rfl
    iexists _; isplitr
    swap; · iexact H12
    ipureintro
    rw [View.read_writes_full]
    unfold st2
    refine congrArg (k2_pay17 (F := F)) ?_
    exact loop_state _ _ _ _ _ _ _ _ _ _ _ _ _ _ _ _ _ _ _ _ _ _ _ _ _ _ _ _ _ _ _ _ _ _ _ _ _ _ _ _ _ hav
        (e12 _) (e13 _) _ _ _ _ _ _ trips_eq (View.readAt_full _ _ _)
        (by unfold body2.sl.v41_1; exact readAt_row _ _ _ (e12 _) 0 _ rfl _) (by unfold body2.sl.v48_1; exact readAt_row _ _ _ (e13 _) 0 _ rfl _)
        (readAt_rows16 _ _ _ rfl 0 _ rfl _) (readAt_rows16 _ _ _ rfl 0 _ rfl _) arg11.view.junk

end Cert.KernelIdeal.Own

end
-- ==== Proof.Region2.lean ====
/- Region 2, the selective scan: the proof data of the grid's 32 points and the body's obligation. -/
module

public import proofs.«01_k».proof.Proof.Scan

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off the array as the region finds it. -/
def blk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The state before point `n`: what the point before left (at the first point, zero). -/
def carried (c : Dev nD) : ℕ → Vec F S16x512 .f32
  | 0 => k2_pay8 (F := F)
  | n + 1 => if h : n < cfg2.N then
      st2 (blk2 V c 0 ⟨n, h⟩) (blk2 V c 1 ⟨n, h⟩) (blk2 V c 2 ⟨n, h⟩) (blk2 V c 3 ⟨n, h⟩) (blk2 V c 5 ⟨n, h⟩) (blk2 V c 6 ⟨n, h⟩)
        (if n % 8 = 0 then k2_pay8 (F := F) else carried c n)
    else k2_pay8 (F := F)

/-- The state point `n` starts its steps from. -/
def start (c : Dev nD) (n : ℕ) : Vec F S16x512 .f32 := if n % 8 = 0 then k2_pay8 (F := F) else carried V c n

/-- The state after a point is what the scan of its block makes of the state the point starts from. -/
theorem carried_succ (c : Dev nD) (t : Fin cfg2.N) :
    carried V c (t.val + 1) = st2 (blk2 V c 0 t) (blk2 V c 1 t) (blk2 V c 2 t) (blk2 V c 3 t) (blk2 V c 5 t) (blk2 V c 6 t) (start V c t.val) := by
  rw [carried, dif_pos t.isLt]; rfl

/-- The kernel's three scratch buffers. -/
abbrev sc0 : Memref sig .tc .vmem S256x512 .f32 := Memref.whole cc2_scratch0
abbrev sc1 : Memref sig .tc .vmem S256x512 .f32 := Memref.whole cc2_scratch1
abbrev sc2 : Memref sig .tc .vmem S16x512 .f32 := Memref.whole cc2_scratch2

/-- A buffer held at some contents. -/
def anyAt (c : Dev nD) (b : Ref sig .tc) : sProp 𝕄 :=
  iprop(∃ f : Buf (Elt F) ((c : Thread nD τ).loc b), ((c : Thread nD τ).loc b) ↦{fullShare} f)

/-- The staging buffers of the other regions, at some contents. -/
def rest2 (c : Dev nD) : sProp 𝕄 :=
  iprop(anyAt (F := F) c cc0_stg0_0 ∗ anyAt (F := F) c cc0_stg1_0 ∗ anyAt (F := F) c cc0_stg1_1 ∗ anyAt (F := F) c cc0_stg2_0 ∗ anyAt (F := F) c cc0_stg2_1 ∗ anyAt (F := F) c cc0_stg3_0 ∗ anyAt (F := F) c cc0_stg3_1 ∗ anyAt (F := F) c cc0_stg4_0 ∗ anyAt (F := F) c cc0_stg4_1 ∗ anyAt (F := F) c cc0_stg5_0 ∗ anyAt (F := F) c cc0_stg5_1 ∗ anyAt (F := F) c cc0_stg6_0 ∗ anyAt (F := F) c cc0_stg6_1 ∗ anyAt (F := F) c cc1_stg0_0 ∗ anyAt (F := F) c cc1_stg1_0 ∗ anyAt (F := F) c cc1_stg2_0 ∗ anyAt (F := F) c cc3_stg0_0 ∗ anyAt (F := F) c cc3_stg1_0 ∗ anyAt (F := F) c cc3_stg2_0)

/-- What the region holds before point `n` beside its windows: the state's scratch at the carried state. -/
def phi2 (c : Dev nD) (n : ℕ) : sProp 𝕄 :=
  iprop(rest2 (F := F) c ∗ (∃ d, owns (c : Thread nD τ) (sc0 : Memref sig .tc .vmem S256x512 .f32) fullShare d)
    ∗ (∃ d, owns (c : Thread nD τ) (sc1 : Memref sig .tc .vmem S256x512 .f32) fullShare d)
    ∗ (∃ d, ⌜n % 8 ≠ 0 → d = carried V c n⌝ ∗ owns (c : Thread nD τ) (sc2 : Memref sig .tc .vmem S16x512 .f32) fullShare d)
    ∗ (∃ r, prngReg c r))

/-- The buffers no window uses, whatever they hold, are the invariant before the first point. -/
theorem phi2_in (c : Dev nD) : Pipeline.ΦA spec2 c ⊢ phi2 V c 0 := by
  unfold Pipeline.ΦA phi2 rest2 anyAt
  rw [scopedRest2_eq]
  simp only [sc0, sc1, sc2, owns_whole]
  iintro ⟨⟨Rcc0_stg0_0, Rcc0_stg1_0, Rcc0_stg1_1, Rcc0_stg2_0, Rcc0_stg2_1, Rcc0_stg3_0, Rcc0_stg3_1, Rcc0_stg4_0, Rcc0_stg4_1, Rcc0_stg5_0, Rcc0_stg5_1, Rcc0_stg6_0, Rcc0_stg6_1, Rcc1_stg0_0, Rcc1_stg1_0, Rcc1_stg2_0, S0, S1, ⟨%d, S2⟩, Rcc3_stg0_0, Rcc3_stg1_0, Rcc3_stg2_0⟩, Hg⟩
  isplitl [Rcc0_stg0_0 Rcc0_stg1_0 Rcc0_stg1_1 Rcc0_stg2_0 Rcc0_stg2_1 Rcc0_stg3_0 Rcc0_stg3_1 Rcc0_stg4_0 Rcc0_stg4_1 Rcc0_stg5_0 Rcc0_stg5_1 Rcc0_stg6_0 Rcc0_stg6_1 Rcc1_stg0_0 Rcc1_stg1_0 Rcc1_stg2_0 Rcc3_stg0_0 Rcc3_stg1_0 Rcc3_stg2_0]
  · isplitl [Rcc0_stg0_0]; · iexact Rcc0_stg0_0
    isplitl [Rcc0_stg1_0]; · iexact Rcc0_stg1_0
    isplitl [Rcc0_stg1_1]; · iexact Rcc0_stg1_1
    isplitl [Rcc0_stg2_0]; · iexact Rcc0_stg2_0
    isplitl [Rcc0_stg2_1]; · iexact Rcc0_stg2_1
    isplitl [Rcc0_stg3_0]; · iexact Rcc0_stg3_0
    isplitl [Rcc0_stg3_1]; · iexact Rcc0_stg3_1
    isplitl [Rcc0_stg4_0]; · iexact Rcc0_stg4_0
    isplitl [Rcc0_stg4_1]; · iexact Rcc0_stg4_1
    isplitl [Rcc0_stg5_0]; · iexact Rcc0_stg5_0
    isplitl [Rcc0_stg5_1]; · iexact Rcc0_stg5_1
    isplitl [Rcc0_stg6_0]; · iexact Rcc0_stg6_0
    isplitl [Rcc0_stg6_1]; · iexact Rcc0_stg6_1
    isplitl [Rcc1_stg0_0]; · iexact Rcc1_stg0_0
    isplitl [Rcc1_stg1_0]; · iexact Rcc1_stg1_0
    isplitl [Rcc1_stg2_0]; · iexact Rcc1_stg2_0
    isplitl [Rcc3_stg0_0]; · iexact Rcc3_stg0_0
    isplitl [Rcc3_stg1_0]; · iexact Rcc3_stg1_0
    iexact Rcc3_stg2_0
  isplitl [S0]; · iexact S0
  isplitl [S1]; · iexact S1
  isplitl [S2]
  · iexists d; isplitr
    · ipureintro; intro h; exact absurd rfl h
    iexact S2
  iexact Hg

/-- The invariant after any number of points gives those buffers back. -/
theorem phi2_out (c : Dev nD) (n : ℕ) : phi2 V c n ⊢ Pipeline.ΦA spec2 c := by
  unfold Pipeline.ΦA phi2 rest2 anyAt
  rw [scopedRest2_eq]
  simp only [sc0, sc1, sc2, owns_whole]
  iintro ⟨⟨Rcc0_stg0_0, Rcc0_stg1_0, Rcc0_stg1_1, Rcc0_stg2_0, Rcc0_stg2_1, Rcc0_stg3_0, Rcc0_stg3_1, Rcc0_stg4_0, Rcc0_stg4_1, Rcc0_stg5_0, Rcc0_stg5_1, Rcc0_stg6_0, Rcc0_stg6_1, Rcc1_stg0_0, Rcc1_stg1_0, Rcc1_stg2_0, Rcc3_stg0_0, Rcc3_stg1_0, Rcc3_stg2_0⟩, S0, S1, ⟨%d, -, S2⟩, Hg⟩
  isplitl [Rcc0_stg0_0 Rcc0_stg1_0 Rcc0_stg1_1 Rcc0_stg2_0 Rcc0_stg2_1 Rcc0_stg3_0 Rcc0_stg3_1 Rcc0_stg4_0 Rcc0_stg4_1 Rcc0_stg5_0 Rcc0_stg5_1 Rcc0_stg6_0 Rcc0_stg6_1 Rcc1_stg0_0 Rcc1_stg1_0 Rcc1_stg2_0 Rcc3_stg0_0 Rcc3_stg1_0 Rcc3_stg2_0 S0 S1 S2]
  · isplitl [Rcc0_stg0_0]; · iexact Rcc0_stg0_0
    isplitl [Rcc0_stg1_0]; · iexact Rcc0_stg1_0
    isplitl [Rcc0_stg1_1]; · iexact Rcc0_stg1_1
    isplitl [Rcc0_stg2_0]; · iexact Rcc0_stg2_0
    isplitl [Rcc0_stg2_1]; · iexact Rcc0_stg2_1
    isplitl [Rcc0_stg3_0]; · iexact Rcc0_stg3_0
    isplitl [Rcc0_stg3_1]; · iexact Rcc0_stg3_1
    isplitl [Rcc0_stg4_0]; · iexact Rcc0_stg4_0
    isplitl [Rcc0_stg4_1]; · iexact Rcc0_stg4_1
    isplitl [Rcc0_stg5_0]; · iexact Rcc0_stg5_0
    isplitl [Rcc0_stg5_1]; · iexact Rcc0_stg5_1
    isplitl [Rcc0_stg6_0]; · iexact Rcc0_stg6_0
    isplitl [Rcc0_stg6_1]; · iexact Rcc0_stg6_1
    isplitl [Rcc1_stg0_0]; · iexact Rcc1_stg0_0
    isplitl [Rcc1_stg1_0]; · iexact Rcc1_stg1_0
    isplitl [Rcc1_stg2_0]; · iexact Rcc1_stg2_0
    isplitl [S0]; · iexact S0
    isplitl [S1]; · iexact S1
    isplitl [S2]; · iexists d; iexact S2
    isplitl [Rcc3_stg0_0]; · iexact Rcc3_stg0_0
    isplitl [Rcc3_stg1_0]; · iexact Rcc3_stg1_0
    iexact Rcc3_stg2_0
  iexact Hg

/-- The region's proof data: arrays as found, an input's buffer keeps its block, the output's holds the body's result. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => blk2 V c 8 t
    | ⟨9, _⟩ => out2_9 (blk2 V c 0 t) (blk2 V c 1 t) (blk2 V c 2 t) (blk2 V c 3 t) (blk2 V c 4 t) (blk2 V c 5 t) (blk2 V c 6 t) (blk2 V c 7 t) (blk2 V c 8 t) (start V c t.val)
  Φ t := phi2 V c t.val
  q _ := fullShare
  owed _ := 0

/-- The arrays of the proof data are the contents at entry. -/
theorem arr2 (c : Dev nD) (w : Fin cfg2.W) : (dat2 V c).A w = V c (Pipeline.arrRef spec2 w) := by
  dsimp only [dat2]

/-- The body leaves input window 0 its block. -/
theorem after2_0 (c : Dev nD) (t : Fin cfg2.N) : (dat2 V c).after 0 t = blk2 V c 0 t := by dsimp only [dat2]
/-- The body leaves input window 1 its block. -/
theorem after2_1 (c : Dev nD) (t : Fin cfg2.N) : (dat2 V c).after 1 t = blk2 V c 1 t := by dsimp only [dat2]
/-- The body leaves input window 2 its block. -/
theorem after2_2 (c : Dev nD) (t : Fin cfg2.N) : (dat2 V c).after 2 t = blk2 V c 2 t := by dsimp only [dat2]
/-- The body leaves input window 3 its block. -/
theorem after2_3 (c : Dev nD) (t : Fin cfg2.N) : (dat2 V c).after 3 t = blk2 V c 3 t := by dsimp only [dat2]
/-- The body leaves input window 4 its block. -/
theorem after2_4 (c : Dev nD) (t : Fin cfg2.N) : (dat2 V c).after 4 t = blk2 V c 4 t := by dsimp only [dat2]
/-- The body leaves input window 5 its block. -/
theorem after2_5 (c : Dev nD) (t : Fin cfg2.N) : (dat2 V c).after 5 t = blk2 V c 5 t := by dsimp only [dat2]
/-- The body leaves input window 6 its block. -/
theorem after2_6 (c : Dev nD) (t : Fin cfg2.N) : (dat2 V c).after 6 t = blk2 V c 6 t := by dsimp only [dat2]
/-- The body leaves input window 7 its block. -/
theorem after2_7 (c : Dev nD) (t : Fin cfg2.N) : (dat2 V c).after 7 t = blk2 V c 7 t := by dsimp only [dat2]
/-- The body leaves input window 8 its block. -/
theorem after2_8 (c : Dev nD) (t : Fin cfg2.N) : (dat2 V c).after 8 t = blk2 V c 8 t := by dsimp only [dat2]
/-- The body leaves output window 9 the point's result. -/
theorem after2_9 (c : Dev nD) (t : Fin cfg2.N) : (dat2 V c).after 9 t = out2_9 (blk2 V c 0 t) (blk2 V c 1 t) (blk2 V c 2 t) (blk2 V c 3 t) (blk2 V c 4 t) (blk2 V c 5 t) (blk2 V c 6 t) (blk2 V c 7 t) (blk2 V c 8 t) (start V c t.val) := by dsimp only [dat2]

/-- The body finds input window 0 at its block. -/
theorem before2_0 (c : Dev nD) (t : Fin cfg2.N) (d) : (dat2 V c).before 0 t d = blk2 V c 0 t :=
  ((dat2 V c).before_in_eq_fetched 0 rfl (fun _ => rfl) (fun _ _ _ => rfl)
    (fun t => by rw [after2_0]; unfold Dat.blockOf blk2; rw [arr2]; try rfl) t d).trans
    (by unfold Dat.fetched Dat.blockOf blk2; rw [arr2]; try rfl)
/-- The body finds input window 1 at its block. -/
theorem before2_1 (c : Dev nD) (t : Fin cfg2.N) (d) : (dat2 V c).before 1 t d = blk2 V c 1 t :=
  ((dat2 V c).before_in_eq_fetched 1 rfl (fun _ => rfl) (fun _ _ _ => rfl)
    (fun t => by rw [after2_1]; unfold Dat.blockOf blk2; rw [arr2]; try rfl) t d).trans
    (by unfold Dat.fetched Dat.blockOf blk2; rw [arr2]; try rfl)
/-- The body finds input window 2 at its block. -/
theorem before2_2 (c : Dev nD) (t : Fin cfg2.N) (d) : (dat2 V c).before 2 t d = blk2 V c 2 t :=
  ((dat2 V c).before_in_eq_fetched 2 rfl (fun _ => rfl) (fun _ _ _ => rfl)
    (fun t => by rw [after2_2]; unfold Dat.blockOf blk2; rw [arr2]; try rfl) t d).trans
    (by unfold Dat.fetched Dat.blockOf blk2; rw [arr2]; try rfl)
/-- The body finds input window 3 at its block. -/
theorem before2_3 (c : Dev nD) (t : Fin cfg2.N) (d) : (dat2 V c).before 3 t d = blk2 V c 3 t :=
  ((dat2 V c).before_in_eq_fetched 3 rfl (fun _ => rfl) (fun _ _ _ => rfl)
    (fun t => by rw [after2_3]; unfold Dat.blockOf blk2; rw [arr2]; try rfl) t d).trans
    (by unfold Dat.fetched Dat.blockOf blk2; rw [arr2]; try rfl)
/-- The body finds input window 4 at its block. -/
theorem before2_4 (c : Dev nD) (t : Fin cfg2.N) (d) : (dat2 V c).before 4 t d = blk2 V c 4 t :=
  ((dat2 V c).before_in_eq_fetched 4 rfl (fun _ => rfl) (fun _ _ _ => rfl)
    (fun t => by rw [after2_4]; unfold Dat.blockOf blk2; rw [arr2]; try rfl) t d).trans
    (by unfold Dat.fetched Dat.blockOf blk2; rw [arr2]; try rfl)
/-- The body finds input window 5 at its block. -/
theorem before2_5 (c : Dev nD) (t : Fin cfg2.N) (d) : (dat2 V c).before 5 t d = blk2 V c 5 t :=
  ((dat2 V c).before_in_eq_fetched 5 rfl (fun _ => rfl) (fun _ _ _ => rfl)
    (fun t => by rw [after2_5]; unfold Dat.blockOf blk2; rw [arr2]; try rfl) t d).trans
    (by unfold Dat.fetched Dat.blockOf blk2; rw [arr2]; try rfl)
/-- The body finds input window 6 at its block. -/
theorem before2_6 (c : Dev nD) (t : Fin cfg2.N) (d) : (dat2 V c).before 6 t d = blk2 V c 6 t :=
  ((dat2 V c).before_in_eq_fetched 6 rfl (fun _ => rfl) (fun _ _ _ => rfl)
    (fun t => by rw [after2_6]; unfold Dat.blockOf blk2; rw [arr2]; try rfl) t d).trans
    (by unfold Dat.fetched Dat.blockOf blk2; rw [arr2]; try rfl)
/-- The body finds input window 7 at its block. -/
theorem before2_7 (c : Dev nD) (t : Fin cfg2.N) (d) : (dat2 V c).before 7 t d = blk2 V c 7 t :=
  ((dat2 V c).before_in_eq_fetched 7 rfl (fun _ => rfl) (fun _ _ _ => rfl)
    (fun t => by rw [after2_7]; unfold Dat.blockOf blk2; rw [arr2]; try rfl) t d).trans
    (by unfold Dat.fetched Dat.blockOf blk2; rw [arr2]; try rfl)
/-- The body finds input window 8 at its block. -/
theorem before2_8 (c : Dev nD) (t : Fin cfg2.N) (d) : (dat2 V c).before 8 t d = blk2 V c 8 t :=
  ((dat2 V c).before_in_eq_fetched 8 rfl (fun _ => rfl) (fun _ _ _ => rfl)
    (fun t => by rw [after2_8]; unfold Dat.blockOf blk2; rw [arr2]; try rfl) t d).trans
    (by unfold Dat.fetched Dat.blockOf blk2; rw [arr2]; try rfl)

/-- The invariant before a point. -/
theorem phi2_castSucc (c : Dev nD) (t : Fin cfg2.N) : (dat2 V c).Φ t.castSucc = phi2 V c t.val := by dsimp only [dat2]; rfl
/-- The invariant after a point. -/
theorem phi2_succ (c : Dev nD) (t : Fin cfg2.N) : (dat2 V c).Φ t.succ = phi2 V c (t.val + 1) := by dsimp only [dat2]; rfl

/-- The body at any point of the grid, the windows one by one. -/
theorem point2 (c : Dev nD) (t : Fin cfg2.N) :
    iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))
      ⊢ wp frame (wpE (defs₀ (F := F)) Variants.none c none) Set.univ (bodyAt2 t) (fun _ =>
    iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))) := by
  unfold bodyAt2
  simp only [before2_0, before2_1, before2_2, before2_3, before2_4, before2_5, before2_6, before2_7, before2_8]
  rw [phi2_castSucc, phi2_succ,
    show (dat2 V c).owesAt () t.succ = (dat2 V c).owesAt () t.castSucc from rfl,
    after2_0, after2_1, after2_2, after2_3, after2_4, after2_5, after2_6, after2_7, after2_8, after2_9]
  unfold phi2
  iintro ⟨⟨HR, HS0, HS1, ⟨%h, %hh, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hc : (reset (grid2.coords t) ∧ start V c t.val = k2_pay8 (F := F)) ∨ (¬ reset (grid2.coords t) ∧ start V c t.val = h) := by
    by_cases h0 : t.val % 8 = 0
    · exact .inl ⟨(reset_iff t).mpr h0, if_pos h0⟩
    · exact .inr ⟨fun hr => h0 ((reset_iff t).mp hr), (if_neg h0).trans (hh h0).symm⟩
  iapply (body2 c Set.univ (grid2.coords t) _ _ _ _ _ _ _ _ _ _ _ _ _ _ _ _ _ _ _ _ _ _ _ _ _ _ (blk2 V c 0 t) (blk2 V c 1 t) (blk2 V c 2 t) (blk2 V c 3 t) (blk2 V c 4 t) (blk2 V c 5 t) (blk2 V c 6 t) (blk2 V c 7 t) (blk2 V c 8 t) h (start V c t.val) hc _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  iintro ⟨H0, H1, H2, H3, H4, H5, H6, H7, H8, H9, HS0, HS1, HS2⟩
  isplitl [HR HS0 HS1 HS2 Hg]
  · isplitl [HR]; · iexact HR
    isplitl [HS0]; · iexact HS0
    isplitl [HS1]; · iexact HS1
    isplitl [HS2]
    · iexists _; isplitr
      swap; · iexact HS2
      ipureintro; intro _; exact (carried_succ V c t).symm
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the region. -/
theorem obl2 (c : Dev nD) : BodyObligation (dat2 (F := F) V c) (defs₀ (F := F)) Variants.none () Set.univ := fun t => by
  rw [bigSep_W2, bigSep_W2, show defs₀ (F := F) .tc cfg2.body (cfg2.bodyArgs t (cfg2.slots t)) = bodyAt2 t by
    unfold defs₀; rw [Defs.onTc_tc]]
  exact triple_restated (point2 V c t) rfl .rfl fun _ => .rfl

end Cert.KernelIdeal.Own

end
-- ==== Proof.Region3.lean ====
/- Region 3, the output projection: the body's triple and the proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off the array as the region finds it. -/
def blk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

abbrev r3_0 : Rect S2048x2048 := Rect.unit (s := S2048x2048) ![0, 0] S1024x2048.size inb_S2048x2048_S1024x2048_0_0
abbrev r3_1 : Rect S2x1024x2048 := Rect.unit (s := S2x1024x2048) ![0, 0, 0] S1x1024x2048.size inb_S2x1024x2048_S1x1024x2048_0_0_0
abbrev r3_2 : Rect S2048x1024 := Rect.unit (s := S2048x1024) ![0, 0] S1024x1024.size inb_S2048x1024_S1024x1024_0_0
abbrev r3_3 : Rect S2048x2048 := Rect.unit (s := S2048x2048) ![1024, 0] S1024x2048.size inb_S2048x2048_S1024x2048_1024_0
abbrev r3_4 : Rect S2x1024x2048 := Rect.unit (s := S2x1024x2048) ![1, 0, 0] S1x1024x2048.size inb_S2x1024x2048_S1x1024x2048_1_0_0
abbrev r3_5 : Rect S2048x1024 := Rect.unit (s := S2048x1024) ![1024, 0] S1024x1024.size inb_S2048x1024_S1024x1024_1024_0

/-- What the body leaves in the output's buffer: each half of the rows times its own weights. -/
def out3_2 (x0 : Vec F S2048x2048 .f32) (x1 : Vec F S2x1024x2048 .f32) : Vec F S2048x1024 .f32 :=
  View.canon [⟨r3_5, k3_pay2 (View.ld x0 r3_3) (View.ld x1 r3_4)⟩,
    ⟨r3_2, k3_pay1 (View.ld x0 r3_0) (View.ld x1 r3_1)⟩]

/-- The two stores cover the buffer. -/
theorem cover3_2 (p0 p1 : Vec F S1024x1024 .f32) (y : S2048x1024.Idx) :
    ∃ pc ∈ ([⟨r3_5, p0⟩, ⟨r3_2, p1⟩] : List (View.Piece (Elt F) S2048x1024 .f32)), y ∈ pc.1.set :=
  View.cover_of_tiled [⟨r3_5, p0⟩, ⟨r3_2, p1⟩] S1024x1024.size (by rfl) y

set_option maxHeartbeats 1000000 in
/-- The kernel body leaves its inputs' staging buffers as they were and each output's at the function above
    of them, whatever the output buffers held. -/
theorem body3 (c : Dev nD) (E : Set ℕ) (i : grid3.Coords) (a1 : Memref sig .tc .vmem S2048x2048 .f32) (h1 : a1.IsWhole) (a2 : Memref sig .tc .vmem S2x1024x2048 .f32) (h2 : a2.IsWhole) (a3 : Memref sig .tc .vmem S2048x1024 .f32) (h3 : a3.IsWhole)
    (x0 : Vec F S2048x2048 .f32) (x1 : Vec F S2x1024x2048 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1 ∗ owns (c : Thread nD τ) a3 fullShare (out3_2 x0 x1)) -∗ K ⟨⟩))
      ⊢ wp frame (wpE (defs₀ (F := F)) Variants.none c none) E (cc3__outproj_kernel i a1 h1 a2 h2 a3 h3) K := by
  simp only [cc3__outproj_kernel_eq_skeleton]; unfold cc3__outproj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _ _)

/-- The region's proof data: arrays as found, an input's buffer keeps its block, an output's holds the body's result. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => out3_2 (blk3 V c 0 t) (blk3 V c 1 t)
  Φ _ := Pipeline.ΦA spec3 c
  q _ := fullShare
  owed _ := 0

/-- The arrays of the proof data are the contents at entry. -/
theorem arr3 (c : Dev nD) (w : Fin cfg3.W) : (dat3 V c).A w = V c (Pipeline.arrRef spec3 w) := by
  dsimp only [dat3]

/-- The body leaves input window 0 its block. -/
theorem after3_0 (c : Dev nD) (t : Fin cfg3.N) : (dat3 V c).after 0 t = blk3 V c 0 t := by dsimp only [dat3]
/-- The body leaves input window 1 its block. -/
theorem after3_1 (c : Dev nD) (t : Fin cfg3.N) : (dat3 V c).after 1 t = blk3 V c 1 t := by dsimp only [dat3]
/-- The body leaves output window 2 the point's result. -/
theorem after3_2 (c : Dev nD) (t : Fin cfg3.N) : (dat3 V c).after 2 t = out3_2 (blk3 V c 0 t) (blk3 V c 1 t) := by dsimp only [dat3]

/-- The body finds input window 0 at its block. -/
theorem before3_0 (c : Dev nD) (t : Fin cfg3.N) (d) : (dat3 V c).before 0 t d = blk3 V c 0 t :=
  ((dat3 V c).before_in_eq_fetched 0 rfl (fun _ => rfl) (fun _ _ _ => rfl)
    (fun t => by rw [after3_0]; unfold Dat.blockOf blk3; rw [arr3]; try rfl) t d).trans
    (by unfold Dat.fetched Dat.blockOf blk3; rw [arr3]; try rfl)
/-- The body finds input window 1 at its block. -/
theorem before3_1 (c : Dev nD) (t : Fin cfg3.N) (d) : (dat3 V c).before 1 t d = blk3 V c 1 t :=
  ((dat3 V c).before_in_eq_fetched 1 rfl (fun _ => rfl) (fun _ _ _ => rfl)
    (fun t => by rw [after3_1]; unfold Dat.blockOf blk3; rw [arr3]; try rfl) t d).trans
    (by unfold Dat.fetched Dat.blockOf blk3; rw [arr3]; try rfl)

/-- The body at any point of the grid, the windows one by one. -/
theorem point3 (c : Dev nD) (t : Fin cfg3.N) :
    iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))
      ⊢ wp frame (wpE (defs₀ (F := F)) Variants.none c none) Set.univ (bodyAt3 t) (fun _ =>
    iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))) := by
  unfold bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (body3 c Set.univ (grid3.coords t) _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region. -/
theorem obl3 (c : Dev nD) : BodyObligation (dat3 (F := F) V c) (defs₀ (F := F)) Variants.none () Set.univ := fun t => by
  rw [bigSep_W3, bigSep_W3, show defs₀ (F := F) .tc cfg3.body (cfg3.bodyArgs t (cfg3.slots t)) = bodyAt3 t by
    unfold defs₀; rw [Defs.onTc_tc]]
  exact triple_restated (point3 V c t) rfl .rfl fun _ => .rfl

end Cert.KernelIdeal.Own

end
-- ==== Proof.Run.lean ====
/- The whole program: the contents of the buffers between its items, its regions as segments, and its run. -/
module

public import proofs.«01_k».proof.Proof.Region0
public import proofs.«01_k».proof.Proof.Region1
public import proofs.«01_k».proof.Proof.Region2
public import proofs.«01_k».proof.Proof.Region3
public import proofs.«01_k».proof.Proof.Gen.KernelIdeal.Regions

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10]

/-! ## The buffers between the items -/

/-- At launch. -/
abbrev W0 : Dev nD → Valuation τ sig (Elt F) := fun c b => m ((c : Dev nD), b)
/-- At entry the arguments are as the memory holds them. -/
theorem W0_args (c : Dev nD) : ∀ a ∈ argRefs, W0 m c (Proc.devRef .tc a) = m ((c : Thread nD τ).loc a) := fun _ _ => rfl

/-- After the host's stretch `hostOps0`. -/
abbrev W1 : Dev nD → Valuation τ sig (Elt F) := fun c => StableHlo.after hostOps0 (W0 m c)
/-- What the stretch does not write is as it was. -/
theorem W1_of (c : Dev nD) (r : Ref sig .tc) (h : r ∉ hostOps0_W) : W1 m c (Proc.devRef .tc r) = W0 m c (Proc.devRef .tc r) :=
  StableHlo.after_of_writes_sub hostOps0 _ hostOps0_writes h
/-- The stretch writes no argument. -/
theorem hargs0 : ∀ a ∈ argRefs, a ∉ hostOps0_W := ListAll.forall_mem_of_all_decide (by decide +kernel)
/-- After it the arguments are as at entry. -/
theorem W1_args (c : Dev nD) : ∀ a ∈ argRefs, W1 m c (Proc.devRef .tc a) = m ((c : Thread nD τ).loc a) :=
  fun a ha => (W1_of m c a (hargs0 a ha)).trans (W0_args m c a ha)
abbrev U1 : (c : Dev nD) → (b : Ref sig .tc) → Buf (Elt F) ((c : Thread nD τ).loc b) := fun c b => W1 m c b

/-- After region 0: its output arrays at what its points leave, every other buffer as before. -/
def W2 (c : Dev nD) : Valuation τ sig (Elt F) :=
  Pipeline.withArrays spec0 c (W1 m c) fun w => (dat0 (U1 m) c).arrAt w cfg0.N
/-- After the region its windows' arrays are what the region's points leave. -/
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
/-- After it any other array is as it was. -/
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- After it whatever is not an output is as it was. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (U1 m) c).arrAt_in w (h w rfl) _).trans (arr0 (U1 m) c w))
  · exact W2_of_ne m c r fun w e => hw ⟨w, e⟩
/-- No argument is an output of the region. -/
theorem args0 : ∀ a ∈ argRefs, ∀ w : Fin cfg0.W, Pipeline.arrRef spec0 w = a → (cfg0.win w).isOut = false :=
  ListAll.forall_mem_of_all_decide (by decide +kernel)
/-- After it the arguments are as at entry. -/
theorem W2_args (c : Dev nD) : ∀ a ∈ argRefs, W2 m c (Proc.devRef .tc a) = m ((c : Thread nD τ).loc a) :=
  fun a ha => (W2_of m c a (args0 a ha)).trans (W1_args m c a ha)
abbrev U2 : (c : Dev nD) → (b : Ref sig .tc) → Buf (Elt F) ((c : Thread nD τ).loc b) := fun c b => W2 m c b

/-- After region 1: its output arrays at what its points leave, every other buffer as before. -/
def W3 (c : Dev nD) : Valuation τ sig (Elt F) :=
  Pipeline.withArrays spec1 c (W2 m c) fun w => (dat1 (U2 m) c).arrAt w cfg1.N
/-- After the region its windows' arrays are what the region's points leave. -/
theorem W3_arr (c : Dev nD) (w : Fin cfg1.W) :
    W3 m c (Proc.devRef .tc (Pipeline.arrRef spec1 w)) = (dat1 (U2 m) c).arrAt w cfg1.N := by
  unfold W3; exact Pipeline.withArrays_arr spec1 launch1.win.arr_inj c _ _ w
/-- After it any other array is as it was. -/
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- After it whatever is not an output is as it was. -/
theorem W3_of (c : Dev nD) (r : Ref sig .tc) (h : ∀ w : Fin cfg1.W, Pipeline.arrRef spec1 w = r → (cfg1.win w).isOut = false) :
    W3 m c (Proc.devRef .tc r) = W2 m c (Proc.devRef .tc r) := by
  by_cases hw : ∃ w : Fin cfg1.W, Pipeline.arrRef spec1 w = r
  · obtain ⟨w, rfl⟩ := hw
    exact (W3_arr m c w).trans (((dat1 (U2 m) c).arrAt_in w (h w rfl) _).trans (arr1 (U2 m) c w))
  · exact W3_of_ne m c r fun w e => hw ⟨w, e⟩
/-- No argument is an output of the region. -/
theorem args1 : ∀ a ∈ argRefs, ∀ w : Fin cfg1.W, Pipeline.arrRef spec1 w = a → (cfg1.win w).isOut = false :=
  ListAll.forall_mem_of_all_decide (by decide +kernel)
/-- After it the arguments are as at entry. -/
theorem W3_args (c : Dev nD) : ∀ a ∈ argRefs, W3 m c (Proc.devRef .tc a) = m ((c : Thread nD τ).loc a) :=
  fun a ha => (W3_of m c a (args1 a ha)).trans (W2_args m c a ha)
abbrev U3 : (c : Dev nD) → (b : Ref sig .tc) → Buf (Elt F) ((c : Thread nD τ).loc b) := fun c b => W3 m c b

/-- After the host's stretch `hostOps2`. -/
abbrev W4 : Dev nD → Valuation τ sig (Elt F) := fun c => StableHlo.after hostOps2 (W3 m c)
/-- What the stretch does not write is as it was. -/
theorem W4_of (c : Dev nD) (r : Ref sig .tc) (h : r ∉ hostOps2_W) : W4 m c (Proc.devRef .tc r) = W3 m c (Proc.devRef .tc r) :=
  StableHlo.after_of_writes_sub hostOps2 _ hostOps2_writes h
/-- The stretch writes no argument. -/
theorem hargs2 : ∀ a ∈ argRefs, a ∉ hostOps2_W := ListAll.forall_mem_of_all_decide (by decide +kernel)
/-- After it the arguments are as at entry. -/
theorem W4_args (c : Dev nD) : ∀ a ∈ argRefs, W4 m c (Proc.devRef .tc a) = m ((c : Thread nD τ).loc a) :=
  fun a ha => (W4_of m c a (hargs2 a ha)).trans (W3_args m c a ha)
abbrev U4 : (c : Dev nD) → (b : Ref sig .tc) → Buf (Elt F) ((c : Thread nD τ).loc b) := fun c b => W4 m c b

/-- After region 2: its output arrays at what its points leave, every other buffer as before. -/
def W5 (c : Dev nD) : Valuation τ sig (Elt F) :=
  Pipeline.withArrays spec2 c (W4 m c) fun w => (dat2 (U4 m) c).arrAt w cfg2.N
/-- After the region its windows' arrays are what the region's points leave. -/
theorem W5_arr (c : Dev nD) (w : Fin cfg2.W) :
    W5 m c (Proc.devRef .tc (Pipeline.arrRef spec2 w)) = (dat2 (U4 m) c).arrAt w cfg2.N := by
  unfold W5; exact Pipeline.withArrays_arr spec2 launch2.win.arr_inj c _ _ w
/-- After it any other array is as it was. -/
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- After it whatever is not an output is as it was. -/
theorem W5_of (c : Dev nD) (r : Ref sig .tc) (h : ∀ w : Fin cfg2.W, Pipeline.arrRef spec2 w = r → (cfg2.win w).isOut = false) :
    W5 m c (Proc.devRef .tc r) = W4 m c (Proc.devRef .tc r) := by
  by_cases hw : ∃ w : Fin cfg2.W, Pipeline.arrRef spec2 w = r
  · obtain ⟨w, rfl⟩ := hw
    exact (W5_arr m c w).trans (((dat2 (U4 m) c).arrAt_in w (h w rfl) _).trans (arr2 (U4 m) c w))
  · exact W5_of_ne m c r fun w e => hw ⟨w, e⟩
/-- No argument is an output of the region. -/
theorem args2 : ∀ a ∈ argRefs, ∀ w : Fin cfg2.W, Pipeline.arrRef spec2 w = a → (cfg2.win w).isOut = false :=
  ListAll.forall_mem_of_all_decide (by decide +kernel)
/-- After it the arguments are as at entry. -/
theorem W5_args (c : Dev nD) : ∀ a ∈ argRefs, W5 m c (Proc.devRef .tc a) = m ((c : Thread nD τ).loc a) :=
  fun a ha => (W5_of m c a (args2 a ha)).trans (W4_args m c a ha)
abbrev U5 : (c : Dev nD) → (b : Ref sig .tc) → Buf (Elt F) ((c : Thread nD τ).loc b) := fun c b => W5 m c b

/-- After region 3: its output arrays at what its points leave, every other buffer as before. -/
def W6 (c : Dev nD) : Valuation τ sig (Elt F) :=
  Pipeline.withArrays spec3 c (W5 m c) fun w => (dat3 (U5 m) c).arrAt w cfg3.N
/-- After the region its windows' arrays are what the region's points leave. -/
theorem W6_arr (c : Dev nD) (w : Fin cfg3.W) :
    W6 m c (Proc.devRef .tc (Pipeline.arrRef spec3 w)) = (dat3 (U5 m) c).arrAt w cfg3.N := by
  unfold W6; exact Pipeline.withArrays_arr spec3 launch3.win.arr_inj c _ _ w
/-- After it any other array is as it was. -/
theorem W6_of_ne (c : Dev nD) (b : Ref sig .tc) (hb : ∀ w, Pipeline.arrRef spec3 w ≠ b) :
    W6 m c (Proc.devRef .tc b) = W5 m c (Proc.devRef .tc b) := by
  unfold W6; exact Pipeline.withArrays_of_ne spec3 c _ _ b hb
/-- After it whatever is not an output is as it was. -/
theorem W6_of (c : Dev nD) (r : Ref sig .tc) (h : ∀ w : Fin cfg3.W, Pipeline.arrRef spec3 w = r → (cfg3.win w).isOut = false) :
    W6 m c (Proc.devRef .tc r) = W5 m c (Proc.devRef .tc r) := by
  by_cases hw : ∃ w : Fin cfg3.W, Pipeline.arrRef spec3 w = r
  · obtain ⟨w, rfl⟩ := hw
    exact (W6_arr m c w).trans (((dat3 (U5 m) c).arrAt_in w (h w rfl) _).trans (arr3 (U5 m) c w))
  · exact W6_of_ne m c r fun w e => hw ⟨w, e⟩
/-- No argument is an output of the region. -/
theorem args3 : ∀ a ∈ argRefs, ∀ w : Fin cfg3.W, Pipeline.arrRef spec3 w = a → (cfg3.win w).isOut = false :=
  ListAll.forall_mem_of_all_decide (by decide +kernel)
/-- After it the arguments are as at entry. -/
theorem W6_args (c : Dev nD) : ∀ a ∈ argRefs, W6 m c (Proc.devRef .tc a) = m ((c : Thread nD τ).loc a) :=
  fun a ha => (W6_of m c a (args3 a ha)).trans (W5_args m c a ha)
abbrev U6 : (c : Dev nD) → (b : Ref sig .tc) → Buf (Elt F) ((c : Thread nD τ).loc b) := fun c b => W6 m c b

/-- After the host's stretch `hostOps4`. -/
abbrev W7 : Dev nD → Valuation τ sig (Elt F) := fun c => StableHlo.after hostOps4 (W6 m c)
/-- What the stretch does not write is as it was. -/
theorem W7_of (c : Dev nD) (r : Ref sig .tc) (h : r ∉ hostOps4_W) : W7 m c (Proc.devRef .tc r) = W6 m c (Proc.devRef .tc r) :=
  StableHlo.after_of_writes_sub hostOps4 _ hostOps4_writes h
/-- The stretch writes no argument. -/
theorem hargs4 : ∀ a ∈ argRefs, a ∉ hostOps4_W := ListAll.forall_mem_of_all_decide (by decide +kernel)
/-- After it the arguments are as at entry. -/
theorem W7_args (c : Dev nD) : ∀ a ∈ argRefs, W7 m c (Proc.devRef .tc a) = m ((c : Thread nD τ).loc a) :=
  fun a ha => (W7_of m c a (hargs4 a ha)).trans (W6_args m c a ha)
abbrev U7 : (c : Dev nD) → (b : Ref sig .tc) → Buf (Elt F) ((c : Thread nD τ).loc b) := fun c b => W7 m c b

/-! ## The regions as segments -/

/-- Every region's proof data, at the contents it is entered with. -/
def pdats : (p : Fin 4) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c
  | ⟨2, _⟩ => fun c => dat2 (U4 m) c
  | ⟨3, _⟩ => fun c => dat3 (U5 m) c

abbrev L : GSem nD τ sig → Finset Unit := fun _ => ∅
abbrev lv : GSem nD τ sig → Unit → ℕ := fun _ _ => 0

/-- What rides beside the buffers: the core's generator register, and that it owes nothing. -/
abbrev R (c : Dev nD) : sProp 𝕄 := iprop((∃ r, prngReg c r) ∗ ∃ W, owes (c : Thread nD τ) (0 : CellTallies nD τ sig Unit) W)

/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An array that no region scopes is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- A region as a segment, entered at the contents `W` and left at the contents `W'`: what a region needs to show is its
    body's obligation, that its invariant starts from and ends in the plain one, and what its arrays hold at entry and exit. -/
def rseg (p : Fin 4) (lf : Pipeline.LaunchFacts (nD := nD) (τ := τ) cfgs p) (W W' : Dev nD → Valuation τ sig (Elt F))
    (hq : ∀ c w, (pdats m p c).q w = fullShare) (howed : ∀ c t, (pdats m p c).owed t = 0) (hrec : ∀ c, (pdats m p c).recorded 0 = Set.univ)
    (hob : ∀ c, BodyObligation (pdats m p c) (defs₀ (F := F)) Variants.none () Set.univ)
    (hΦ0 : ∀ c, (Pipeline.ΦA (Pipeline.pin (pcfgs (F := F)) adm p).spec c : sProp 𝕄) ⊢ (pdats m p c).Φ 0)
    (hΦN : ∀ c, (pdats m p c).Φ (Fin.last _) ⊢ (Pipeline.ΦA (Pipeline.pin (pcfgs (F := F)) adm p).spec c : sProp 𝕄))
    (hA : ∀ c w, (pdats m p c).A w = W c (Proc.devRef .tc (Pipeline.arrRef (Pipeline.pin (pcfgs (F := F)) adm p).spec w)))
    (hF : ∀ c w, (pdats m p c).arrAt w (Pipeline.pin (pcfgs (F := F)) adm p).N
      = W' c (Proc.devRef .tc (Pipeline.arrRef (Pipeline.pin (pcfgs (F := F)) adm p).spec w)))
    (hrest : ∀ c (b : Ref sig .tc), b ∉ Finset.univ.image (Pipeline.arrRef (Pipeline.pin (pcfgs (F := F)) adm p).spec) →
      W' c (Proc.devRef .tc b) = W c (Proc.devRef .tc b)) :
    Pipeline.RegionSeg (pcfgs (F := F)) adm (pdats m) () defs₀ Variants.none L lv p where
  win := lf.win.to₀
  block_pos := lf.block_pos
  stage_whole := lf.stage_whole
  K := PEmpty
  osem k := k.elim
  ho := Pipeline.OwnSemFacts.none _
  hbody c := (hob c).loose
  hwaits := Pipeline.hwaits_of_owed_zero _ _ _ _ L lv p fun c t => howed c t
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => W c b)
  hentry c := by
    rw [Pipeline.ownSems0_none]
    have hsplit := Pipeline.arrays_of_unscopedBufs (p := p) (pcfgs (F := F)) adm (pdats m) lf.win lf.arr_whole c
      ((pdats m p c).share_full fun w => hq c w) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun _ _ => Or.inl (by rw [hrec]; trivial)
      iexact HO
    isplitl [Hp]; · iexact Hp
    iexact Hrest
  hin c := by
    refine BIBase.Entails.trans ?_ (hΦ0 c); unfold Pipeline.ΦA
    iintro ⟨Hp, -, Hr⟩
    isplitl [Hr]; · iexact Hr
    iexact Hp
  hout c := by
    rw [Pipeline.ownSems0_none]
    refine BIBase.Entails.trans (hΦN c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full fun w => hq c w)
      (fun b => W c b) (fun b => W' c b) ((pdats m p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

/-- An array that is no window of a region is as it was before the region. -/
theorem rest_of {gr Wn : ℕ} (sp : Fin Wn → Pipeline.WinSpec sig gr) (W W' : Dev nD → Valuation τ sig (Elt F))
    (h : ∀ c (b : Ref sig .tc), (∀ w, Pipeline.arrRef sp w ≠ b) → W' c (Proc.devRef .tc b) = W c (Proc.devRef .tc b)) (c : Dev nD) (b : Ref sig .tc)
    (hb : b ∉ Finset.univ.image (Pipeline.arrRef sp)) : W' c (Proc.devRef .tc b) = W c (Proc.devRef .tc b) :=
  h c b fun w e => hb (Finset.mem_image.mpr ⟨w, Finset.mem_univ _, e⟩)

set_option backward.isDefEq.respectTransparency.types false in
/-- Region 0 over the buffers' contents before and after it. -/
def reg0 : Pipeline.RegionSeg (pcfgs (F := F)) adm (pdats m) () defs₀ Variants.none L lv 0 :=
  rseg m 0 launch0 (W1 m) (W2 m) (fun _ _ => rfl) (fun _ _ => rfl) (fun _ => rfl) (fun c => obl0 (U1 m) c) (fun _ => .rfl) (fun _ => .rfl)
    (fun c w => arr0 (U1 m) c w) (fun c w => (W2_arr m c w).symm) (rest_of spec0 (W1 m) (W2 m) (W2_of_ne m))

set_option backward.isDefEq.respectTransparency.types false in
/-- Region 1 over the buffers' contents before and after it. -/
def reg1 : Pipeline.RegionSeg (pcfgs (F := F)) adm (pdats m) () defs₀ Variants.none L lv 1 :=
  rseg m 1 launch1 (W2 m) (W3 m) (fun _ _ => rfl) (fun _ _ => rfl) (fun _ => rfl) (fun c => obl1 (U2 m) c) (fun _ => .rfl) (fun _ => .rfl)
    (fun c w => arr1 (U2 m) c w) (fun c w => (W3_arr m c w).symm) (rest_of spec1 (W2 m) (W3 m) (W3_of_ne m))

set_option backward.isDefEq.respectTransparency.types false in
/-- Region 2 over the buffers' contents before and after it. -/
def reg2 : Pipeline.RegionSeg (pcfgs (F := F)) adm (pdats m) () defs₀ Variants.none L lv 2 :=
  rseg m 2 launch2 (W4 m) (W5 m) (fun _ _ => rfl) (fun _ _ => rfl) (fun _ => rfl) (fun c => obl2 (U4 m) c) (fun c => phi2_in (U4 m) c) (fun c => phi2_out (U4 m) c _)
    (fun c w => arr2 (U4 m) c w) (fun c w => (W5_arr m c w).symm) (rest_of spec2 (W4 m) (W5 m) (W5_of_ne m))

set_option backward.isDefEq.respectTransparency.types false in
/-- Region 3 over the buffers' contents before and after it. -/
def reg3 : Pipeline.RegionSeg (pcfgs (F := F)) adm (pdats m) () defs₀ Variants.none L lv 3 :=
  rseg m 3 launch3 (W5 m) (W6 m) (fun _ _ => rfl) (fun _ _ => rfl) (fun _ => rfl) (fun c => obl3 (U5 m) c) (fun _ => .rfl) (fun _ => .rfl)
    (fun c w => arr3 (U5 m) c w) (fun c w => (W6_arr m c w).symm) (rest_of spec3 (W5 m) (W6 m) (W6_of_ne m))

/-! ## The run -/

/-- The program's seven items in order. -/
abbrev items : List (Pipeline.Seg (pcfgs (F := F)) adm (pdats m) () defs₀ Variants.none L lv) :=
  [ .host (hseg hostOps0 hostOps0_sub hostOps0_fresh (W0 m)),
    .region (reg0 m),
    .region (reg1 m),
    .host (hseg hostOps2 hostOps2_sub hostOps2_fresh (W3 m)),
    .region (reg2 m),
    .region (reg3 m),
    .host (hseg hostOps4 hostOps4_sub hostOps4_fresh (W6 m)) ]

/-- The kernel is the run of its seven stretches and regions. -/
theorem main_items (c : Dev nD) : main (F := F) c = Pipeline.Seg.run (items m) := (main_chain c).trans (by chain_rfl)

abbrev Tₙ (c : Dev nD) : sProp 𝕄 := iprop(StableHlo.held (c : Thread nD τ) (Pipeline.ucRefs τ sig) (W7 m c) ∗ ∃ r, prngReg c r)

/-- No region scopes an argument. -/
theorem unscoped_args : ∀ a ∈ argRefs, ¬ (Proc.devRef .tc a : DevRef τ sig).isScoped := ListAll.forall_mem_of_all_decide (by decide +kernel)

set_option backward.isDefEq.respectTransparency.types false in
/-- From any memory with zero counters every fair execution ends, with every argument as launched, the result at the last
    contents of the fold above, and every counter at zero. -/
theorem run : θ_run defs (onTc (τ := τ) (main (F := F))) ⟨m, fun _ => 0, ρ⟩ (fun r => (∀ c : Dev nD,
      (∀ a ∈ argRefs, r.2.mem ((c.tc : Thread nD τ).loc a) = m ((c.tc : Thread nD τ).loc a))
      ∧ r.2.mem ((c.tc : Thread nD τ).loc main_v21) = W7 m c (Proc.devRef .tc main_v21))
      ∧ r.2.sem = fun _ => 0) :=
  Pipeline.θ_run_regions_kit_sems (pcfgs (F := F)) adm (pdats m) () cellOf_inj emb₁ defs₀ Variants.none L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h hz => ⟨(fun c =>
      ⟨fun a ha => (h c _ (mem_uc a (unscoped_args a ha))).trans (W7_args m c a ha), h c _ (mem_uc main_v21 (by decide))⟩),
      funext fun g => hz g (.inr (regions_no_unscoped g.2))⟩)

end Cert.KernelIdeal.Own

end
-- ==== Proof.RefRun.lean ====
/-
The reference's run: the stretches before the loop, the loop, the stretch after it, one after the other. What nothing
writes is at the end as it was at the start.
-/
module

public import proofs.«01_k».proof.Proof.Gen.ReferenceIdeal.Run

@[expose] public section

set_option maxRecDepth 16384
set_option maxHeartbeats 4000000
set_option Elab.async false

noncomputable section

namespace Cert.ReferenceIdeal.Own

open Cert.ReferenceIdeal Cert.ReferenceIdeal.Gen Cert.ReferenceIdeal.Value
open Idealize.ShloMosaic Idealize.ShloMosaic.TcCoe
open Idealize.ShloMosaic.StableHlo
open Idealize.SL.Sem

variable {F : FTy → Type} [FloatOps F]

/-- What the stretch after the loop writes. -/
abbrev postW : List (Ref sig .tc) := [main_v209, main_v210, main_v211, main_v212, main_v213, main_v214, main_v215, main_v216, main_cst_32, main_v217, main_v218, main_cst_33, main_v219, main_v220, main_v221, main_v222, main_v223, main_cst_34, main_v224, main_v225, main_v226, main_c_35, main_v227, main_v228, main_c_36, main_v229, main_v230, main_v231, main_v232, main_v233, main_v234, main_v235, main_v236, main_v237, main_v238, main_v239, main_c_37, main_v240, main_v241, main_c_38, main_v242, main_v243, main_v244, main_v245, main_v246, main_v247, main_v248, main_c_39, main_v249, main_v250, main_c_40, main_v251, main_v252, main_v253, main_v254, main_v255, main_v256, main_v257, main_v258, main_v259, main_v260, main_v261, main_c_41, main_v262, main_v263, main_c_42, main_v264, main_v265, main_v266, main_v267, main_v268, main_v269]

/-- The stretch after the loop writes no more than that. -/
theorem post_writes : (hostOps0_5 : List (HloOp τ sig (Elt F))).Forall fun op => op.writes ⊆ (postW.map (Proc.devRef (τ := τ) .tc)).toFinset :=
  StableHlo.forall_writes_sub_of_map rfl

/-- What the stretches before the loop write. -/
abbrev preW : List (Ref sig .tc) := hostOps0_W ++ (hostOps0_1_W ++ (hostOps0_2_W ++ (hostOps0_3_W ++ (hostOps0_4_W))))

/-- What the loop's condition and body write. -/
abbrev loopW : List (Ref sig .tc) := condOps_W ++ (while0Ops0_W ++ (while0Ops0_1_W ++ (while0Ops0_2_W ++ (while0Ops0_3_W ++ (while0Ops0_4_W ++ (while0Ops0_5_W ++ (while0Ops0_6_W)))))))

variable (m : (ℓ : Loc nD τ sig) → Buf (Elt F) ℓ) (ρ : Dev nD → PrngReg) (c : Dev nD)

/-- What the stretches before the loop do not write is at the loop's entry as at launch. -/
theorem entry_keep (r : Ref sig .tc) (h : r ∉ preW) : entryContents preI m c (Proc.devRef .tc r) = m ((c.tc : Thread nD τ).loc r) := by
  simp only [preW, List.mem_append, not_or] at h
  obtain ⟨h0, h1, h2, h3, h4⟩ := h
  simp only [entryContents, afterL_cons, afterL_nil]
  rw [after_of_writes_sub hostOps0_4 _ hostOps0_4_writes h4, after_of_writes_sub hostOps0_3 _ hostOps0_3_writes h3, after_of_writes_sub hostOps0_2 _ hostOps0_2_writes h2, after_of_writes_sub hostOps0_1 _ hostOps0_1_writes h1, after_of_writes_sub hostOps0 _ hostOps0_writes h0]

/-- What the loop does not write is after any number of trips as at its entry. -/
theorem trips_keep (r : Ref sig .tc) (h : r ∉ loopW) : ∀ k, atK m k c (Proc.devRef .tc r) = entryContents preI m c (Proc.devRef .tc r)
  | 0 => rfl
  | k + 1 => by
    have ih := trips_keep r h k
    simp only [loopW, List.mem_append, not_or] at h
    obtain ⟨h0, h1, h2, h3, h4, h5, h6, h7⟩ := h
    rw [show atK m (k + 1) c = afterL bodyI (after condOps (atK m k c)) from rfl]
    simp only [afterL_cons, afterL_nil]
    rw [after_of_writes_sub while0Ops0_6 _ while0Ops0_6_writes h7, after_of_writes_sub while0Ops0_5 _ while0Ops0_5_writes h6, after_of_writes_sub while0Ops0_4 _ while0Ops0_4_writes h5, after_of_writes_sub while0Ops0_3 _ while0Ops0_3_writes h4, after_of_writes_sub while0Ops0_2 _ while0Ops0_2_writes h3, after_of_writes_sub while0Ops0_1 _ while0Ops0_1_writes h2, after_of_writes_sub while0Ops0 _ while0Ops0_writes h1, after_of_writes_sub condOps _ condOps_writes h0]
    exact ih

/-- The buffers when the loop is left. -/
def atExit : Valuation τ sig (Elt F) := after condOps (atK m 2048 c)

/-- What the loop does not write, when it is left. -/
theorem exit_keep (r : Ref sig .tc) (h : r ∉ loopW) : atExit m c (Proc.devRef .tc r) = entryContents preI m c (Proc.devRef .tc r) := by
  refine Eq.trans (after_of_writes_sub condOps _ condOps_writes ?_) (trips_keep m c r h 2048)
  intro hc; exact h (List.mem_append_left _ hc)

/-- What the loop carries, when it is left. -/
theorem exit_carried : Agree (atExit m c) (STEP^[2048] (entryContents preI m c)) :=
  fun j hj => (cond_keeps _ j hj).trans (atK_agree m c 2048 j hj)

/-- What nothing writes is at the end as at launch. -/
theorem end_keep (r : Ref sig .tc) (h : r ∉ preW) (hl : r ∉ loopW) (hp : r ∉ postW) :
    finalContents condOps preI bodyI postI 2048 m c (Proc.devRef .tc r) = m ((c.tc : Thread nD τ).loc r) :=
  (after_of_writes_sub hostOps0_5 (atExit m c) post_writes hp).trans ((exit_keep m c r hl).trans (entry_keep m c r h))

/-- The run: the result as the stretch after the loop makes it of the buffers the loop leaves; the arguments as they were. -/
theorem run : θ_run (defs (F := F)) (onTc (τ := τ) (main (F := F))) ⟨m, fun _ => 0, ρ⟩ fun r => ∀ c : Dev nD,
    r.2.mem ((c.tc : Thread nD τ).loc main_v269) = after hostOps0_5 (atExit m c) (Proc.devRef .tc main_v269)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) :=
  (θ_run defs _ _).mono (fun _ h c => ⟨(h c main_v269 rfl).trans rfl,
    (h c main_arg0 rfl).trans (end_keep m c main_arg0 (by decide +kernel) (by decide +kernel) (by decide +kernel)),
    (h c main_arg1 rfl).trans (end_keep m c main_arg1 (by decide +kernel) (by decide +kernel) (by decide +kernel)),
    (h c main_arg2 rfl).trans (end_keep m c main_arg2 (by decide +kernel) (by decide +kernel) (by decide +kernel)),
    (h c main_arg3 rfl).trans (end_keep m c main_arg3 (by decide +kernel) (by decide +kernel) (by decide +kernel)),
    (h c main_arg4 rfl).trans (end_keep m c main_arg4 (by decide +kernel) (by decide +kernel) (by decide +kernel)),
    (h c main_arg5 rfl).trans (end_keep m c main_arg5 (by decide +kernel) (by decide +kernel) (by decide +kernel)),
    (h c main_arg6 rfl).trans (end_keep m c main_arg6 (by decide +kernel) (by decide +kernel) (by decide +kernel)),
    (h c main_arg7 rfl).trans (end_keep m c main_arg7 (by decide +kernel) (by decide +kernel) (by decide +kernel)),
    (h c main_arg8 rfl).trans (end_keep m c main_arg8 (by decide +kernel) (by decide +kernel) (by decide +kernel)),
    (h c main_arg9 rfl).trans (end_keep m c main_arg9 (by decide +kernel) (by decide +kernel) (by decide +kernel)),
    (h c main_arg10 rfl).trans (end_keep m c main_arg10 (by decide +kernel) (by decide +kernel) (by decide +kernel))⟩) (run_fold m ρ)

end Cert.ReferenceIdeal.Own

end
-- ==== Proof.Frames.lean ====
/- The frame claims: each program's run read at its arguments and its counters. -/
module

public import proofs.«01_k».proof.Defs
public import proofs.«01_k».proof.Proof.Run
public import proofs.«01_k».proof.Proof.Gen.Kernel
public import proofs.«01_k».proof.Proof.Gen.KernelIdeal
public import proofs.«01_k».proof.Proof.RefRun
public import Idealize.ShloMosaic.Lib.Tactic

@[expose] public section

noncomputable section

namespace Cert.Proof

open Idealize.ShloMosaic Idealize.SL.Sem

/-- The kernel at any floats: its arguments unchanged, its counters at zero. -/
theorem quiescentF {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6) ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7) ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8) ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9) ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) ∧ r.2.sem = fun _ => 0) :=
  (θ_run _ _ _).mono (fun _ h => ⟨fun c => by
    obtain ⟨h, -⟩ := h.1 c
    exact ⟨h Cert.KernelIdeal.main_arg0 (by decide), h Cert.KernelIdeal.main_arg1 (by decide), h Cert.KernelIdeal.main_arg2 (by decide), h Cert.KernelIdeal.main_arg3 (by decide), h Cert.KernelIdeal.main_arg4 (by decide), h Cert.KernelIdeal.main_arg5 (by decide), h Cert.KernelIdeal.main_arg6 (by decide), h Cert.KernelIdeal.main_arg7 (by decide), h Cert.KernelIdeal.main_arg8 (by decide), h Cert.KernelIdeal.main_arg9 (by decide), h Cert.KernelIdeal.main_arg10 (by decide)⟩, h.2⟩) (Cert.KernelIdeal.Own.run (F := F) m g)

/-- The frame of the kernel at machine floats, stated of its ideal printing: the same program. -/
def quiescentB : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r =>
      (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6) ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7) ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8) ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9) ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) ∧ r.2.sem = fun _ => 0)

/-- It is the same statement as the frame of the kernel. -/
theorem quiescentB_eq : quiescentB = Cert.quiescent_Kernel (hKernel := Cert.Kernel.Gen.facts) := by sl_kernel_rfl

/-- The kernel as it runs. -/
theorem quiescentK : Cert.quiescent_Kernel (hKernel := Cert.Kernel.Gen.facts) :=
  quiescentB_eq.mp fun m g _ => quiescentF (F := Bits) m g

/-- The kernel over the extended reals. -/
theorem quiescentKI : Cert.quiescent_KernelIdeal (hKernelIdeal := Cert.KernelIdeal.Gen.facts) := fun m g _ => quiescentF (F := Ideal) m g

/-- The reference over the extended reals; it declares no semaphore. -/
theorem quiescentRI : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Own.run (F := Ideal) m g)

end Cert.Proof

end
-- ==== Proof.Spec.lean ====
/-
The block's mathematics over the extended reals, entry by entry, of plain functions of token, channel, state and model
coordinate: what both programs are shown to compute.
-/
module

public import Idealize.ShloMosaic.PureOps.Ideal
public import Idealize.ShloMosaic.Lib.ValueIdx

@[expose] public section

noncomputable section

namespace Cert.Own

open Idealize.ShloMosaic
open Idealize.ShloMosaic.ValueIdx
open scoped BigOperators

/-- The half a token lies in. -/
def half (t : Fin 2048) : Fin 2 := ⟨t.val / 1024, by omega⟩

/-- The block's arguments, by coordinates. -/
structure Args where
  hs : Fin 2048 → Fin 1024 → EReal
  win : Fin 2 → Fin 4096 → Fin 1024 → EReal
  cw : Fin 2048 → Fin 4 → EReal
  cb : Fin 2048 → EReal
  wx : Fin 2 → Fin 96 → Fin 2048 → EReal
  wdt : Fin 2 → Fin 2048 → Fin 64 → EReal
  bdt : Fin 2 → Fin 2048 → EReal
  alog : Fin 2048 → Fin 16 → EReal
  dv : Fin 2048 → EReal
  wo : Fin 2 → Fin 1024 → Fin 2048 → EReal

/-- The activation `x` times the logistic of `x`. -/
def silu (x : EReal) : EReal := x * Ideal.logistic x

/-- The softplus. -/
def sp (x : EReal) : EReal := max x 0 + Ideal.log1p (Ideal.exp (-(max x (-x))))

namespace Args
variable (a : Args)

/-- The input projection: token `t`, row `e`. -/
def xz (t : Fin 2048) (e : Fin 4096) : EReal := ∑ k, a.hs t k * a.win (half t) e k

/-- The convolved half of the input projection. -/
def x (t : Fin 2048) (d : Fin 2048) : EReal := a.xz t ⟨d.val, by omega⟩

/-- The gating half of the input projection. -/
def z (t : Fin 2048) (d : Fin 2048) : EReal := a.xz t ⟨2048 + d.val, by omega⟩

/-- The convolved half `s` tokens before `t`; before the first token, zero. -/
def back (s : ℕ) (t : Fin 2048) (d : Fin 2048) : EReal := if h : s ≤ t.val then a.x ⟨t.val - s, by omega⟩ d else 0

/-- The convolution over the four last tokens, with its bias. -/
def conv (t : Fin 2048) (d : Fin 2048) : EReal :=
  a.cb d + (a.cw d 0 * a.back 3 t d + a.cw d 1 * a.back 2 t d + a.cw d 2 * a.back 1 t d + a.cw d 3 * a.back 0 t d)

/-- The convolution, activated. -/
def u (t : Fin 2048) (d : Fin 2048) : EReal := silu (a.conv t d)

/-- The projection to step size, input and output weights. -/
def dbl (t : Fin 2048) (r : Fin 96) : EReal := ∑ d, a.u t d * a.wx (half t) r d

/-- The input weights of the state. -/
def B (t : Fin 2048) (n : Fin 16) : EReal := a.dbl t ⟨64 + n.val, by omega⟩

/-- The output weights of the state. -/
def C (t : Fin 2048) (n : Fin 16) : EReal := a.dbl t ⟨80 + n.val, by omega⟩

/-- The step sizes before the softplus. -/
def dtr (t : Fin 2048) (d : Fin 2048) : EReal := (∑ r : Fin 64, a.dbl t ⟨r.val, by omega⟩ * a.wdt (half t) d r) + a.bdt (half t) d

/-- The step sizes. -/
def dt (t : Fin 2048) (d : Fin 2048) : EReal := sp (a.dtr t d)

/-- The state's decay rates. -/
def A (d : Fin 2048) (n : Fin 16) : EReal := -(Ideal.exp (a.alog d n))

/-- The state before token `k`. -/
def h : ℕ → Fin 2048 → Fin 16 → EReal
  | 0, _, _ => 0
  | k + 1, d, n => h k d n * Ideal.exp (a.dt (Fin.ofNat 2048 k) d * a.A d n)
      + a.dt (Fin.ofNat 2048 k) d * a.B (Fin.ofNat 2048 k) n * a.u (Fin.ofNat 2048 k) d

/-- The scan's output: the state after the token, weighed. -/
def ys (t : Fin 2048) (d : Fin 2048) : EReal := ∑ n, a.h (t.val + 1) d n * a.C t n

/-- The scan's output with skip and gate. -/
def y (t : Fin 2048) (d : Fin 2048) : EReal := (a.ys t d + a.u t d * a.dv d) * silu (a.z t d)

/-- The result. -/
def out (t : Fin 2048) (m : Fin 1024) : EReal := ∑ d, a.y t d * a.wo (half t) m d

/-- The arguments of the programs, by coordinates. -/
def of (a0 : (⟨3, ![1, 2048, 1024]⟩ : Shape).Idx → EReal) (a2 : (⟨3, ![2, 4096, 1024]⟩ : Shape).Idx → EReal)
    (a3 : (⟨2, ![2048, 4]⟩ : Shape).Idx → EReal) (a4 : (⟨1, ![2048]⟩ : Shape).Idx → EReal)
    (a5 : (⟨3, ![2, 96, 2048]⟩ : Shape).Idx → EReal) (a6 : (⟨3, ![2, 2048, 64]⟩ : Shape).Idx → EReal)
    (a7 : (⟨2, ![2, 2048]⟩ : Shape).Idx → EReal) (a8 : (⟨2, ![2048, 16]⟩ : Shape).Idx → EReal)
    (a9 : (⟨1, ![2048]⟩ : Shape).Idx → EReal) (a10 : (⟨3, ![2, 1024, 2048]⟩ : Shape).Idx → EReal) : Args where
  hs t k := a0 (ix3 (0 : Fin 1) t k)
  win i e k := a2 (ix3 i e k)
  cw d j := a3 (ix2 d j)
  cb d := a4 (ix1 d)
  wx i r d := a5 (ix3 i r d)
  wdt i d r := a6 (ix3 i d r)
  bdt i d := a7 (ix2 i d)
  alog d n := a8 (ix2 d n)
  dv d := a9 (ix1 d)
  wo i m d := a10 (ix3 i m d)

end Args

end Cert.Own

end
-- ==== Proof.KReads.lean ====
/-
What the host operations of the kernel compute between its regions, entry by entry.
-/
module

public import proofs.«01_k».proof.Proof.Run
public import proofs.«01_k».proof.Proof.Spec
public import Idealize.ShloMosaic.Lib.StableHlo.RunRead
public import Idealize.ShloMosaic.Lib.Pointwise
public import Idealize.ShloMosaic.Lib.Pipeline.ValueKit

@[expose] public section

set_option maxRecDepth 16384
set_option maxHeartbeats 4000000
set_option Elab.async false

noncomputable section

namespace Cert.KernelIdeal.Own

open Cert.KernelIdeal Cert.KernelIdeal.Gen
open Idealize.ShloMosaic Idealize.ShloMosaic.TcCoe
open Cert.Own (silu half sp Args)

open Idealize.ShloMosaic.StableHlo

variable (V : Valuation τ sig (Elt Ideal))

/-- The hidden states as a matrix. -/
theorem read_v0 (t : Fin 2048) (k : Fin 1024) : (after hostOps0 V (Proc.devRef .tc main_v0) : Vec Ideal S2048x1024 .f32) (ix2 t k) = (V (Proc.devRef .tc main_arg0) : Vec Ideal S1x2048x1024 .f32) (ix3 0 t k) := by
  after_reads_simp
  show shapeCast S2048x1024 (V (Proc.devRef .tc main_arg0) : Vec Ideal S1x2048x1024 .f32) shapeCasts_S1x2048x1024_S2048x1024 (ix2 t k) = _
  pointwise []

/-- The first half of the rows of the input projection. -/
theorem read_v1 (i : Fin 2) (d : Fin 2048) (k : Fin 1024) : (after hostOps0 V (Proc.devRef .tc main_v1) : Vec Ideal S2x2048x1024 .f32) (ix3 i d k) = (V (Proc.devRef .tc main_arg2) : Vec Ideal S2x4096x1024 .f32) (ix3 i ⟨d.val, by omega⟩ k) := by
  after_reads_simp
  show extractStridedSlice S2x2048x1024 ![0, 0, 0] (V (Proc.devRef .tc main_arg2) : Vec Ideal S2x4096x1024 .f32) slices_S2x4096x1024_S2x2048x1024_0_0_0 (ix3 i d k) = _
  pointwise []

/-- The second half of the rows of the input projection. -/
theorem read_v2 (i : Fin 2) (d : Fin 2048) (k : Fin 1024) : (after hostOps0 V (Proc.devRef .tc main_v2) : Vec Ideal S2x2048x1024 .f32) (ix3 i d k) = (V (Proc.devRef .tc main_arg2) : Vec Ideal S2x4096x1024 .f32) (ix3 i ⟨2048 + d.val, by omega⟩ k) := by
  after_reads_simp
  show extractStridedSlice S2x2048x1024 ![0, 2048, 0] (V (Proc.devRef .tc main_arg2) : Vec Ideal S2x4096x1024 .f32) slices_S2x4096x1024_S2x2048x1024_0_2048_0 (ix3 i d k) = _
  pointwise []

/-- The taps of the convolution, channels along the lanes. -/
theorem read_v3 (j : Fin 4) (d : Fin 2048) : (after hostOps0 V (Proc.devRef .tc main_v3) : Vec Ideal S4x2048 .f32) (ix2 j d) = (V (Proc.devRef .tc main_arg3) : Vec Ideal S2048x4 .f32) (ix2 d j) := by
  after_reads_simp
  show transpose S4x2048 [1, 0] (V (Proc.devRef .tc main_arg3) : Vec Ideal S2048x4 .f32) transposes_S2048x4_S4x2048_1_0 (ix2 j d) = _
  pointwise []

/-- The convolution's bias. -/
theorem read_v4 (d : Fin 2048) : (after hostOps0 V (Proc.devRef .tc main_v4) : Vec Ideal S1x2048 .f32) (ix2 0 d) = (V (Proc.devRef .tc main_arg4) : Vec Ideal S2048 .f32) (ix1 d) := by
  after_reads_simp
  show shapeCast S1x2048 (V (Proc.devRef .tc main_arg4) : Vec Ideal S2048 .f32) shapeCasts_S2048_S1x2048 (ix2 0 d) = _
  pointwise []

/-- The columns of the step sizes. -/
theorem read_v7 (t : Fin 2048) (k : Fin 64) : (after hostOps2 V (Proc.devRef .tc main_v7) : Vec Ideal S2048x64 .f32) (ix2 t k) = (V (Proc.devRef .tc main_v6) : Vec Ideal S2048x96 .f32) (ix2 t ⟨k.val, by omega⟩) := by
  after_reads_simp
  show extractStridedSlice S2048x64 ![0, 0] (V (Proc.devRef .tc main_v6) : Vec Ideal S2048x96 .f32) slices_S2048x96_S2048x64_0_0 (ix2 t k) = _
  pointwise []

/-- The columns of the input weights, one row per token and state entry, repeated along the lanes. -/
theorem read_v11 (r : Fin 32768) (l : Fin 128) : (after hostOps2 V (Proc.devRef .tc main_v11) : Vec Ideal S32768x128 .f32) (ix2 r l) = (V (Proc.devRef .tc main_v6) : Vec Ideal S2048x96 .f32) (ix2 ⟨r.val / 16, by omega⟩ ⟨64 + r.val % 16, by omega⟩) := by
  after_reads_simp
  show shapeCast S32768x128 (broadcastInDim S2048x16x128 ![0, 1, 2] bcast_S2048x16x1_S2048x16x128_0_1_2 (broadcastInDim S2048x16x1 ![0, 1] bcast_S2048x16_S2048x16x1_0_1
    (extractStridedSlice S2048x16 ![0, 64] (V (Proc.devRef .tc main_v6) : Vec Ideal S2048x96 .f32) slices_S2048x96_S2048x16_0_64))) shapeCasts_S2048x16x128_S32768x128 (ix2 r l) = _
  pointwise []

/-- The columns of the output weights, one row per token and state entry, repeated along the lanes. -/
theorem read_v15 (r : Fin 32768) (l : Fin 128) : (after hostOps2 V (Proc.devRef .tc main_v15) : Vec Ideal S32768x128 .f32) (ix2 r l) = (V (Proc.devRef .tc main_v6) : Vec Ideal S2048x96 .f32) (ix2 ⟨r.val / 16, by omega⟩ ⟨80 + r.val % 16, by omega⟩) := by
  after_reads_simp
  show shapeCast S32768x128 (broadcastInDim S2048x16x128 ![0, 1, 2] bcast_S2048x16x1_S2048x16x128_0_1_2 (broadcastInDim S2048x16x1 ![0, 1] bcast_S2048x16_S2048x16x1_0_1
    (extractStridedSlice S2048x16 ![0, 80] (V (Proc.devRef .tc main_v6) : Vec Ideal S2048x96 .f32) slices_S2048x96_S2048x16_0_80))) shapeCasts_S2048x16x128_S32768x128 (ix2 r l) = _
  pointwise []

/-- The logarithms of the decay rates, channels along the lanes. -/
theorem read_v16 (n : Fin 16) (d : Fin 2048) : (after hostOps2 V (Proc.devRef .tc main_v16) : Vec Ideal S16x2048 .f32) (ix2 n d) = (V (Proc.devRef .tc main_arg8) : Vec Ideal S2048x16 .f32) (ix2 d n) := by
  after_reads_simp
  show transpose S16x2048 [1, 0] (V (Proc.devRef .tc main_arg8) : Vec Ideal S2048x16 .f32) transposes_S2048x16_S16x2048_1_0 (ix2 n d) = _
  pointwise []

/-- The step sizes' bias. -/
theorem read_v17 (i : Fin 2) (d : Fin 2048) : (after hostOps2 V (Proc.devRef .tc main_v17) : Vec Ideal S2x1x2048 .f32) (ix3 i 0 d) = (V (Proc.devRef .tc main_arg7) : Vec Ideal S2x2048 .f32) (ix2 i d) := by
  after_reads_simp
  show shapeCast S2x1x2048 (V (Proc.devRef .tc main_arg7) : Vec Ideal S2x2048 .f32) shapeCasts_S2x2048_S2x1x2048 (ix3 i 0 d) = _
  pointwise []

/-- The skip's weights. -/
theorem read_v18 (d : Fin 2048) : (after hostOps2 V (Proc.devRef .tc main_v18) : Vec Ideal S1x2048 .f32) (ix2 0 d) = (V (Proc.devRef .tc main_arg9) : Vec Ideal S2048 .f32) (ix1 d) := by
  after_reads_simp
  show shapeCast S1x2048 (V (Proc.devRef .tc main_arg9) : Vec Ideal S2048 .f32) shapeCasts_S2048_S1x2048 (ix2 0 d) = _
  pointwise []

/-- The result. -/
theorem read_v21 (t : Fin 2048) (e : Fin 1024) : (after hostOps4 V (Proc.devRef .tc main_v21) : Vec Ideal S1x2048x1024 .f32) (ix3 0 t e) = (V (Proc.devRef .tc main_v20) : Vec Ideal S2048x1024 .f32) (ix2 t e) := by
  after_reads_simp
  show shapeCast S1x2048x1024 (V (Proc.devRef .tc main_v20) : Vec Ideal S2048x1024 .f32) shapeCasts_S2048x1024_S1x2048x1024 (ix3 0 t e) = _
  pointwise []

end Cert.KernelIdeal.Own

end
-- ==== Proof.Proj.lean ====
/-
The projections of the kernel entry by entry: what regions 0, 1 and 3 leave in their output blocks, as functions of their
input blocks.
-/
module

public import proofs.«01_k».proof.Proof.Region0
public import proofs.«01_k».proof.Proof.Region1
public import proofs.«01_k».proof.Proof.Region3
public import proofs.«01_k».proof.Proof.Spec
public import Idealize.ShloMosaic.Lib.Pointwise
public import Idealize.ShloMosaic.Lib.Pipeline.ValueKit

@[expose] public section

set_option maxRecDepth 16384
set_option maxHeartbeats 4000000
set_option Elab.async false

noncomputable section

namespace Cert.KernelIdeal.Own

open Cert.KernelIdeal Cert.KernelIdeal.Gen
open Idealize.ShloMosaic Idealize.ShloMosaic.TcCoe
open Cert.Own (silu half sp Args)

/-- The input projection of a block of channels. -/
theorem proj_apply (x0 : Vec Ideal S2048x1024 .f32) (x1 : Vec Ideal S2x512x1024 .f32) (t : Fin 2048) (q : Fin 512) :
    k0_pay5 (View.ld x0 r0_0) (View.ld x0 r0_1) (View.ld x1 r0_2) (View.ld x1 r0_3) (ix2 t q)
      = ((∑ k : Fin 1024, x0 (ix2 t k) * x1 (ix3 (half t) q k) : EReal) : Ideal .f32) := by
  pointwise [k0_pay5, k0_pay3, k0_pay4]
  split
  · next h =>
    rw [show half t = 0 from Fin.ext (by show t.val / 1024 = 0; omega)]
  · next h =>
    rw [show half t = 1 from Fin.ext (by show t.val / 1024 = 1; omega)]
    refine Finset.sum_congr rfl fun k _ => ?_
    congr 3
    exact Fin.ext (by show 1024 + (t.val - 1024) = t.val; omega)

/-- The gate's block of region 0. -/
theorem gate_block (x0 : Vec Ideal S2048x1024 .f32) (x1 x2 : Vec Ideal S2x512x1024 .f32) (x3 : Vec Ideal S4x512 .f32) (x4 : Vec Ideal S1x512 .f32)
    (t : Fin 2048) (q : Fin 512) :
    out0_6 x0 x1 x2 x3 x4 (ix2 t q) = silu (∑ k : Fin 1024, x0 (ix2 t k) * x2 (ix3 (half t) q k) : EReal) := by
  unfold out0_6
  rw [View.canon_cons_unit_lit _ _ _ (by decide)]
  refine Eq.trans ?_ (congrArg silu (proj_apply x0 x2 t q))
  pointwise [k0_pay2, k0_pay3, k0_pay4, k0_pay5, silu]

/-- The convolution's block of region 0, the projections of the block `P`. -/
theorem conv_block (x0 : Vec Ideal S2048x1024 .f32) (x1 x2 : Vec Ideal S2x512x1024 .f32) (x3 : Vec Ideal S4x512 .f32) (x4 : Vec Ideal S1x512 .f32)
    (a : Args) (d : Fin 2048) (t : Fin 2048) (q : Fin 512)
    (hp : ∀ t : Fin 2048, (∑ k : Fin 1024, x0 (ix2 t k) * x1 (ix3 (half t) q k) : EReal) = a.x t d)
    (h3 : ∀ j : Fin 4, (x3 (ix2 j q) : EReal) = a.cw d j) (h4 : (x4 (ix2 0 q) : EReal) = a.cb d) :
    out0_5 x0 x1 x2 x3 x4 (ix2 t q) = a.u t d := by
  unfold out0_5
  rw [View.canon_cons_unit_lit _ _ _ (by decide)]
  have hP : ∀ t : Fin 2048, k0_pay5 (View.ld x0 r0_0) (View.ld x0 r0_1) (View.ld x1 r0_2) (View.ld x1 r0_3) (ix2 t q) = a.x t d :=
    fun t => (proj_apply x0 x1 t q).trans (hp t)
  pointwise [k0_pay1, k0_pay7, k0_pay6]
  simp only [hP, h3, h4]
  have hb : ∀ (s : ℕ) (p : ¬ t.val < s → t.val - s < 2048),
      (if h : t.val < s then (0 : EReal) else a.x ⟨t.val - s, p h⟩ d) = a.back s t d := fun s p => by
    unfold Cert.Own.Args.back
    split
    · rw [dif_neg (by omega)]
    · rw [dif_pos (by omega)]
  have h0 : a.x t d = a.back 0 t d := by
    unfold Cert.Own.Args.back
    rw [dif_pos (by omega)]
    rfl
  rw [h0]
  have hc : a.cb d + a.back 0 t d * a.cw d 3 + a.back 3 t d * a.cw d 0 + a.back 2 t d * a.cw d 1 + a.back 1 t d * a.cw d 2
      = a.conv t d := by
    unfold Cert.Own.Args.conv
    simp only [mul_comm (a.cw d _)]
    ac_rfl
  have hc' := congrArg silu hc
  refine Eq.trans ?_ hc'
  rw [← hb 3 (fun _ => by omega), ← hb 2 (fun _ => by omega), ← hb 1 (fun _ => by omega)]
  rfl

/-- Region 1's block. -/
theorem dbl_block (x0 : Vec Ideal S2048x2048 .f32) (x1 : Vec Ideal S2x96x2048 .f32) (t : Fin 2048) (e : Fin 96) :
    out1_2 x0 x1 (ix2 t e) = (∑ k : Fin 2048, x0 (ix2 t k) * x1 (ix3 (half t) e k) : EReal) := by
  unfold out1_2
  have key := View.canon_apply_of_pieces (Val := Elt Ideal) (e := .f32)
    (fun i : S2048x96.Idx => ((∑ k : Fin 2048, x0 (ix2 (i 0) k) * x1 (ix3 (half (i 0)) (i 1) k) : EReal) : Ideal .f32))
    [⟨r1_5, k1_pay2 (View.ld x0 r1_3) (View.ld x1 r1_4)⟩, ⟨r1_2, k1_pay1 (View.ld x0 r1_0) (View.ld x1 r1_1)⟩] ?_ (ix2 t e) (cover1_2 _ _ _)
  · exact key
  intro p hp x
  rcases List.mem_cons.mp hp with rfl | hp
  · idx_vars x
    pointwise [k1_pay2]
    have e0 : r1_5.emb (ix2 x0 x1) 0 = (⟨1024 + x0.val, by omega⟩ : Fin 2048) :=
      Fin.ext (by show 1024 + 1 * x0.val = 1024 + x0.val; omega)
    have e1 : r1_5.emb (ix2 x0 x1) 1 = x1 := Fin.ext (by show 0 + 1 * x1.val = x1.val; omega)
    rw [e0, e1, show half (⟨1024 + x0.val, by omega⟩ : Fin 2048) = 1 from Fin.ext (by show (1024 + x0.val) / 1024 = 1; omega)]
  · rcases List.mem_cons.mp hp with rfl | hp
    · idx_vars x
      pointwise [k1_pay1]
      have e0 : r1_2.emb (ix2 x0 x1) 0 = (⟨x0.val, by omega⟩ : Fin 2048) := Fin.ext (by show 0 + 1 * x0.val = x0.val; omega)
      have e1 : r1_2.emb (ix2 x0 x1) 1 = x1 := Fin.ext (by show 0 + 1 * x1.val = x1.val; omega)
      rw [e0, e1, show half (⟨x0.val, by omega⟩ : Fin 2048) = 0 from Fin.ext (by show x0.val / 1024 = 0; omega)]
    · exact absurd hp List.not_mem_nil

/-- Region 3's block. -/
theorem wo_block (x0 : Vec Ideal S2048x2048 .f32) (x1 : Vec Ideal S2x1024x2048 .f32) (t : Fin 2048) (e : Fin 1024) :
    out3_2 x0 x1 (ix2 t e) = (∑ k : Fin 2048, x0 (ix2 t k) * x1 (ix3 (half t) e k) : EReal) := by
  unfold out3_2
  have key := View.canon_apply_of_pieces (Val := Elt Ideal) (e := .f32)
    (fun i : S2048x1024.Idx => ((∑ k : Fin 2048, x0 (ix2 (i 0) k) * x1 (ix3 (half (i 0)) (i 1) k) : EReal) : Ideal .f32))
    [⟨r3_5, k3_pay2 (View.ld x0 r3_3) (View.ld x1 r3_4)⟩, ⟨r3_2, k3_pay1 (View.ld x0 r3_0) (View.ld x1 r3_1)⟩] ?_ (ix2 t e) (cover3_2 _ _ _)
  · exact key
  intro p hp x
  rcases List.mem_cons.mp hp with rfl | hp
  · idx_vars x
    pointwise [k3_pay2]
    have e0 : r3_5.emb (ix2 x0 x1) 0 = (⟨1024 + x0.val, by omega⟩ : Fin 2048) :=
      Fin.ext (by show 1024 + 1 * x0.val = 1024 + x0.val; omega)
    have e1 : r3_5.emb (ix2 x0 x1) 1 = x1 := Fin.ext (by show 0 + 1 * x1.val = x1.val; omega)
    rw [e0, e1, show half (⟨1024 + x0.val, by omega⟩ : Fin 2048) = 1 from Fin.ext (by show (1024 + x0.val) / 1024 = 1; omega)]
  · rcases List.mem_cons.mp hp with rfl | hp
    · idx_vars x
      pointwise [k3_pay1]
      have e0 : r3_2.emb (ix2 x0 x1) 0 = (⟨x0.val, by omega⟩ : Fin 2048) := Fin.ext (by show 0 + 1 * x0.val = x0.val; omega)
      have e1 : r3_2.emb (ix2 x0 x1) 1 = x1 := Fin.ext (by show 0 + 1 * x1.val = x1.val; omega)
      rw [e0, e1, show half (⟨x0.val, by omega⟩ : Fin 2048) = 0 from Fin.ext (by show x0.val / 1024 = 0; omega)]
    · exact absurd hp List.not_mem_nil

end Cert.KernelIdeal.Own

end
-- ==== Proof.KVal0.lean ====
/-
The arrays region 0 of the kernel leaves, and what region 1 leaves: the activated convolution, the gate, and the
projection to step sizes, input and output weights.
-/
module

public import proofs.«01_k».proof.Proof.KReads
public import proofs.«01_k».proof.Proof.Proj
public import Idealize.ShloMosaic.Lib.Pointwise
public import Idealize.ShloMosaic.Lib.Pipeline.ValueKit

@[expose] public section

set_option maxRecDepth 16384
set_option maxHeartbeats 4000000
set_option Elab.async false

noncomputable section

namespace Cert.KernelIdeal.Own

open Cert.KernelIdeal Cert.KernelIdeal.Gen
open Idealize.ShloMosaic Idealize.ShloMosaic.TcCoe
open Cert.Own (silu half sp Args)

open Idealize.ShloMosaic.StableHlo

variable (m : (ℓ : Loc nD τ sig) → Buf (Elt Ideal) ℓ) (c : Dev nD)

/-- The arguments the kernel is launched with. -/
def args : Args :=
  Args.of (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10))

/-! ## Region 0 -/

/-- Where the block of each grid point of region 0 lies in its array. -/
theorem idx0_0 : ∀ t : Fin cfg0.N, win0_0.index t = ![0, 0] := by decide +kernel
/-- Where the block of each grid point of region 0 lies in its array. -/
theorem idx0_1 : ∀ t : Fin cfg0.N, win0_1.index t = ![0, t.val, 0] := by decide +kernel
/-- Where the block of each grid point of region 0 lies in its array. -/
theorem idx0_2 : ∀ t : Fin cfg0.N, win0_2.index t = ![0, t.val, 0] := by decide +kernel
/-- Where the block of each grid point of region 0 lies in its array. -/
theorem idx0_3 : ∀ t : Fin cfg0.N, win0_3.index t = ![0, t.val] := by decide +kernel
/-- Where the block of each grid point of region 0 lies in its array. -/
theorem idx0_4 : ∀ t : Fin cfg0.N, win0_4.index t = ![0, t.val] := by decide +kernel
/-- Where the block of each grid point of region 0 lies in its array. -/
theorem idx0_5 : ∀ t : Fin cfg0.N, win0_5.index t = ![0, t.val] := by decide +kernel
/-- Where the block of each grid point of region 0 lies in its array. -/
theorem idx0_6 : ∀ t : Fin cfg0.N, win0_6.index t = ![0, t.val] := by decide +kernel

/-- The channel of column `q` of grid point `p` of region 0. -/
def ch0 (p : Fin cfg0.N) (q : Fin 512) : Fin 2048 := ⟨512 * p.val + q.val, by have h : p.val < 4 := Nat.lt_of_lt_of_eq p.isLt N_0; omega⟩

/-- Region 0's tokens. -/
theorem blk0_0 (p : Fin cfg0.N) (t : Fin 2048) (k : Fin 1024) :
    (blk0 (U1 m) c 0 p : Vec Ideal S2048x1024 .f32) (ix2 t k) = ((args m c).hs t k : EReal) := by
  refine Eq.trans (b := (W1 m c (Proc.devRef .tc main_v0) : Vec Ideal S2048x1024 .f32) (ix2 t k)) ?_ (read_v0 (W0 m c) t k)
  refine congrArg (W1 m c (Proc.devRef .tc main_v0) : Vec Ideal S2048x1024 .f32) ?_
  blk_ext [idx0_0]

/-- Region 0's weights of the half that is convolved. -/
theorem blk0_1 (p : Fin cfg0.N) (i : Fin 2) (q : Fin 512) (k : Fin 1024) :
    (blk0 (U1 m) c 1 p : Vec Ideal S2x512x1024 .f32) (ix3 i q k) = ((args m c).win i ⟨(ch0 p q).val, by omega⟩ k : EReal) := by
  refine Eq.trans (b := (W1 m c (Proc.devRef .tc main_v1) : Vec Ideal S2x2048x1024 .f32) (ix3 i (ch0 p q) k)) ?_ (read_v1 (W0 m c) i (ch0 p q) k)
  refine congrArg (W1 m c (Proc.devRef .tc main_v1) : Vec Ideal S2x2048x1024 .f32) ?_
  blk_ext [idx0_1, ch0]

/-- Region 0's weights of the half that gates. -/
theorem blk0_2 (p : Fin cfg0.N) (i : Fin 2) (q : Fin 512) (k : Fin 1024) :
    (blk0 (U1 m) c 2 p : Vec Ideal S2x512x1024 .f32) (ix3 i q k) = ((args m c).win i ⟨2048 + (ch0 p q).val, by omega⟩ k : EReal) := by
  refine Eq.trans (b := (W1 m c (Proc.devRef .tc main_v2) : Vec Ideal S2x2048x1024 .f32) (ix3 i (ch0 p q) k)) ?_ (read_v2 (W0 m c) i (ch0 p q) k)
  refine congrArg (W1 m c (Proc.devRef .tc main_v2) : Vec Ideal S2x2048x1024 .f32) ?_
  blk_ext [idx0_2, ch0]

/-- Region 0's taps. -/
theorem blk0_3 (p : Fin cfg0.N) (j : Fin 4) (q : Fin 512) :
    (blk0 (U1 m) c 3 p : Vec Ideal S4x512 .f32) (ix2 j q) = ((args m c).cw (ch0 p q) j : EReal) := by
  refine Eq.trans (b := (W1 m c (Proc.devRef .tc main_v3) : Vec Ideal S4x2048 .f32) (ix2 j (ch0 p q))) ?_ (read_v3 (W0 m c) j (ch0 p q))
  refine congrArg (W1 m c (Proc.devRef .tc main_v3) : Vec Ideal S4x2048 .f32) ?_
  blk_ext [idx0_3, ch0]

/-- Region 0's bias. -/
theorem blk0_4 (p : Fin cfg0.N) (q : Fin 512) :
    (blk0 (U1 m) c 4 p : Vec Ideal S1x512 .f32) (ix2 0 q) = ((args m c).cb (ch0 p q) : EReal) := by
  refine Eq.trans (b := (W1 m c (Proc.devRef .tc main_v4) : Vec Ideal S1x2048 .f32) (ix2 0 (ch0 p q))) ?_ (read_v4 (W0 m c) (ch0 p q))
  refine congrArg (W1 m c (Proc.devRef .tc main_v4) : Vec Ideal S1x2048 .f32) ?_
  blk_ext [idx0_4, ch0]

/-- The activated convolution, as an array. -/
def uArr (a : Args) : Vec Ideal S2048x2048 .f32 := fun i => (a.u (i 0) (i 1) : EReal)

/-- The gate, as an array. -/
def gArr (a : Args) : Vec Ideal S2048x2048 .f32 := fun i => (silu (a.z (i 0) (i 1)) : EReal)

/-- Region 0 leaves the activated convolution. -/
theorem W2_u : (W2 m c (Proc.devRef .tc main_v5_0) : Vec Ideal S2048x2048 .f32) = uArr (args m c) := by
  refine (W2_arr m c 5).trans ?_
  refine (dat0 (U1 m) c).arrAt_eq_of_covers 5 _ (by decide +kernel) fun p hf y => ?_
  blk_simp
  rw [after0_5]
  idx_vars y
  have e : ((View.whole main_v5_0).slice (win0_5.rect p)).emb (ix2 y0 y1) = ix2 y0 (ch0 p y1) := by blk_ext [idx0_5, ch0]
  rw [e]
  refine conv_block _ _ _ _ _ (args m c) (ch0 p y1) y0 y1 ?_ ?_ ?_
  · intro t
    unfold Cert.Own.Args.x Cert.Own.Args.xz
    exact Finset.sum_congr rfl fun k _ => congrArg₂ (· * ·) (blk0_0 m c p t k) (blk0_1 m c p (half t) y1 k)
  · exact fun j => blk0_3 m c p j y1
  · exact blk0_4 m c p y1

/-- Region 0 leaves the gate. -/
theorem W2_g : (W2 m c (Proc.devRef .tc main_v5_1) : Vec Ideal S2048x2048 .f32) = gArr (args m c) := by
  refine (W2_arr m c 6).trans ?_
  refine (dat0 (U1 m) c).arrAt_eq_of_covers 6 _ (by decide +kernel) fun p hf y => ?_
  blk_simp
  rw [after0_6]
  idx_vars y
  have e : ((View.whole main_v5_1).slice (win0_6.rect p)).emb (ix2 y0 y1) = ix2 y0 (ch0 p y1) := by blk_ext [idx0_6, ch0]
  rw [e]
  refine (gate_block _ _ _ _ _ y0 y1).trans (congrArg silu ?_)
  unfold Cert.Own.Args.z Cert.Own.Args.xz
  exact Finset.sum_congr rfl fun k _ => congrArg₂ (· * ·) (blk0_0 m c p y0 k) (blk0_2 m c p (half y0) y1 k)

/-! ## Region 1 -/

/-- Where the block of region 1 lies in its array. -/
theorem idx1_0 : ∀ t : Fin cfg1.N, win1_0.index t = ![0, 0] := by decide +kernel
/-- Where the block of region 1 lies in its array. -/
theorem idx1_1 : ∀ t : Fin cfg1.N, win1_1.index t = ![0, 0, 0] := by decide +kernel
/-- Where the block of region 1 lies in its array. -/
theorem idx1_2 : ∀ t : Fin cfg1.N, win1_2.index t = ![0, 0] := by decide +kernel

/-- Region 1's activated convolution. -/
theorem blk1_0 (p : Fin cfg1.N) (t : Fin 2048) (d : Fin 2048) :
    (blk1 (U2 m) c 0 p : Vec Ideal S2048x2048 .f32) (ix2 t d) = ((args m c).u t d : EReal) := by
  refine Eq.trans (b := (W2 m c (Proc.devRef .tc main_v5_0) : Vec Ideal S2048x2048 .f32) (ix2 t d)) ?_ (congrFun (W2_u m c) _)
  refine congrArg (W2 m c (Proc.devRef .tc main_v5_0) : Vec Ideal S2048x2048 .f32) ?_
  blk_ext [idx1_0]

/-- Region 1's weights. -/
theorem blk1_1 (p : Fin cfg1.N) (i : Fin 2) (r : Fin 96) (d : Fin 2048) :
    (blk1 (U2 m) c 1 p : Vec Ideal S2x96x2048 .f32) (ix3 i r d) = ((args m c).wx i r d : EReal) := by
  refine Eq.trans (b := (W2 m c (Proc.devRef .tc main_arg5) : Vec Ideal S2x96x2048 .f32) (ix3 i r d)) ?_ (congrFun (W2_args m c main_arg5 (by decide +kernel)) _)
  refine congrArg (W2 m c (Proc.devRef .tc main_arg5) : Vec Ideal S2x96x2048 .f32) ?_
  blk_ext [idx1_1]

/-- The projection to step sizes, input and output weights, as an array. -/
def dblArr (a : Args) : Vec Ideal S2048x96 .f32 := fun i => (a.dbl (i 0) (i 1) : EReal)

/-- Region 1 leaves the projection of the activated convolution. -/
theorem W3_dbl : (W3 m c (Proc.devRef .tc main_v6) : Vec Ideal S2048x96 .f32) = dblArr (args m c) := by
  refine (W3_arr m c 2).trans ?_
  refine (dat1 (U2 m) c).arrAt_eq_of_covers 2 _ (by decide +kernel) fun p hf y => ?_
  blk_simp
  rw [after1_2]
  idx_vars y
  have e : ((View.whole main_v6).slice (win1_2.rect p)).emb (ix2 y0 y1) = ix2 y0 y1 := by blk_ext [idx1_2]
  rw [e]
  refine (dbl_block (blk1 (U2 m) c 0 p : Vec Ideal S2048x2048 .f32) (blk1 (U2 m) c 1 p : Vec Ideal S2x96x2048 .f32) y0 y1).trans ?_
  exact Finset.sum_congr rfl fun k _ => congrArg₂ (fun x y : EReal => x * y) (blk1_0 m c p y0 k) (blk1_1 m c p (half y0) y1 k)

end Cert.KernelIdeal.Own

end
-- ==== Proof.ScanVal.lean ====
/-
The scan of one block of the kernel, entry by entry: from blocks that hold the entries of a block of tokens and a block
of channels, the state and the results are those of the recurrence.
-/
module

public import proofs.«01_k».proof.Proof.Scan
public import proofs.«01_k».proof.Proof.Spec
public import Idealize.ShloMosaic.Lib.Pointwise
public import Idealize.ShloMosaic.Lib.Pipeline.ValueKit

@[expose] public section

set_option maxRecDepth 16384
set_option maxHeartbeats 4000000
set_option Elab.async false

noncomputable section

namespace Cert.KernelIdeal.Own

open Cert.KernelIdeal Cert.KernelIdeal.Gen
open Idealize.ShloMosaic Idealize.ShloMosaic.TcCoe
open Cert.Own (silu half sp Args)

/-- The token of row `r` of time block `τ`. -/
def tm (τ : Fin 8) (r : Fin 256) : Fin 2048 := ⟨256 * τ.val + r.val, by omega⟩

/-- The channel of column `q` of channel block `κ`. -/
def ch (κ : Fin 4) (q : Fin 512) : Fin 2048 := ⟨512 * κ.val + q.val, by omega⟩

/-- The blocks of a grid point hold the entries of time block `τ` and channel block `κ`. -/
structure Blocks (a : Args) (τ : Fin 8) (κ : Fin 4) (x0 : Vec Ideal S256x64 .f32) (x1 : Vec Ideal S1x512x64 .f32) (x2 : Vec Ideal S1x1x512 .f32)
    (x3 x4 : Vec Ideal S4096x128 .f32) (x5 : Vec Ideal S16x512 .f32) (x6 : Vec Ideal S256x512 .f32) (x7 : Vec Ideal S1x512 .f32)
    (x8 : Vec Ideal S256x512 .f32) : Prop where
  h0 : ∀ (r : Fin 256) (k : Fin 64), (x0 (ix2 r k) : EReal) = a.dbl (tm τ r) ⟨k.val, by omega⟩
  h1 : ∀ (r : Fin 256) (q : Fin 512) (k : Fin 64), (x1 (ix3 0 q k) : EReal) = a.wdt (half (tm τ r)) (ch κ q) k
  h2 : ∀ (r : Fin 256) (q : Fin 512), (x2 (ix3 0 0 q) : EReal) = a.bdt (half (tm τ r)) (ch κ q)
  h3 : ∀ (r : Fin 256) (n : Fin 16) (l : Fin 128), (x3 (ix2 (⟨16 * r.val + n.val, by omega⟩ : Fin 4096) l) : EReal) = a.B (tm τ r) n
  h4 : ∀ (r : Fin 256) (n : Fin 16) (l : Fin 128), (x4 (ix2 (⟨16 * r.val + n.val, by omega⟩ : Fin 4096) l) : EReal) = a.C (tm τ r) n
  h5 : ∀ (n : Fin 16) (q : Fin 512), (x5 (ix2 n q) : EReal) = a.alog (ch κ q) n
  h6 : ∀ (r : Fin 256) (q : Fin 512), (x6 (ix2 r q) : EReal) = a.u (tm τ r) (ch κ q)
  h7 : ∀ (q : Fin 512), (x7 (ix2 0 q) : EReal) = a.dv (ch κ q)
  h8 : ∀ (r : Fin 256) (q : Fin 512), (x8 (ix2 r q) : EReal) = silu (a.z (tm τ r) (ch κ q))

/-- A row of a block of 256 rows. -/
theorem row_apply (X : Vec Ideal S256x512 .f32) (j : Fin 256) (q : Fin 512) : row X j.val (ix2 0 q) = X (ix2 j q) := by
  unfold row
  refine congrArg X (funext fun b => Fin.ext ?_)
  fin_cases b
  · show min j.val 255 = j.val
    omega
  · rfl

/-- Sixteen rows of a block of 4096 rows. -/
theorem rows16_apply (X : Vec Ideal S4096x128 .f32) (j : Fin 256) (n : Fin 16) (l : Fin 128) :
    rows16 X j.val (ix2 n l) = X (ix2 (⟨16 * j.val + n.val, by omega⟩ : Fin 4096) l) := by
  unfold rows16
  refine congrArg X (funext fun b => Fin.ext ?_)
  fin_cases b
  · show 16 * min j.val 255 + n.val = 16 * j.val + n.val
    rw [show min j.val 255 = j.val by omega]
  · rfl

/-- Sixteen rows side by side four times over, rows equal along the lanes. -/
theorem spread_apply (X : Vec Ideal S16x128 .f32) (n : Fin 16) (q : Fin 512) (v : EReal) (h : ∀ l : Fin 128, (X (ix2 n l) : EReal) = v) :
    (k2_pay11 X (ix2 n q) : EReal) = v := by
  pointwise [k2_pay11]
  split_ifs <;> exact h _

variable {a : Args} {τ : Fin 8} {κ : Fin 4} {x0 : Vec Ideal S256x64 .f32} {x1 : Vec Ideal S1x512x64 .f32} {x2 : Vec Ideal S1x1x512 .f32}
    {x3 x4 : Vec Ideal S4096x128 .f32} {x5 : Vec Ideal S16x512 .f32} {x6 : Vec Ideal S256x512 .f32} {x7 : Vec Ideal S1x512 .f32}
    {x8 : Vec Ideal S256x512 .f32}

/-- The softplus as the kernel writes it. -/
theorem sp_form (s : EReal) :
    (if s ≠ s then s else max s 0 + Ideal.log1p (Ideal.exp (0 - (max s (-s))))) = sp s := by
  rw [if_neg (not_not.mpr rfl), zero_sub]
  rfl

/-- The block of step sizes. -/
theorem dt_block (H : Blocks a τ κ x0 x1 x2 x3 x4 x5 x6 x7 x8) (r : Fin 256) (q : Fin 512) :
    (k2_pay2 x0 x1 x2 (ix2 r q) : EReal) = a.dt (tm τ r) (ch κ q) := by
  unfold Cert.Own.Args.dt
  have hs : ((∑ k : Fin 64, x0 (ix2 r k) * x1 (ix3 0 q k)) + x2 (ix3 0 0 q) : EReal) = a.dtr (tm τ r) (ch κ q) := by
    unfold Cert.Own.Args.dtr
    rw [H.h2 r q]
    refine congrArg (· + _) (Finset.sum_congr rfl fun k _ => ?_)
    rw [H.h0 r k, H.h1 r q k]
  refine Eq.trans ?_ ((sp_form _).trans (congrArg sp hs))
  pointwise [k2_pay2]
  rfl

/-- The block of step sizes, as the scan reads it. -/
theorem dt_block' (H : Blocks a τ κ x0 x1 x2 x3 x4 x5 x6 x7 x8) (r : Fin 256) (q : Fin 512) :
    (k2_pay3 x0 x1 x2 (ix2 r q) : EReal) = a.dt (tm τ r) (ch κ q) := by
  refine Eq.trans ?_ (dt_block H r q)
  pointwise [k2_pay3]

/-- The block of step sizes times inputs. -/
theorem du_block (H : Blocks a τ κ x0 x1 x2 x3 x4 x5 x6 x7 x8) (r : Fin 256) (q : Fin 512) :
    (k2_pay4 x0 x1 x2 x6 (ix2 r q) : EReal) = a.dt (tm τ r) (ch κ q) * a.u (tm τ r) (ch κ q) := by
  refine Eq.trans ?_ (congrArg₂ (· * ·) (dt_block H r q) (H.h6 r q))
  pointwise [k2_pay4]

/-- One step of the state. -/
theorem step_block (H : Blocks a τ κ x0 x1 x2 x3 x4 x5 x6 x7 x8) (S : Vec Ideal S16x512 .f32) (j : Fin 256) (n : Fin 16) (q : Fin 512)
    (hS : (S (ix2 n q) : EReal) = a.h (256 * τ.val + j.val) (ch κ q) n) :
    (k2_pay12 S (k2_pay9 (k2_pay5 x5) k2_pay6 (row (k2_pay3 x0 x1 x2) j.val)) (k2_pay10 (rows16 x3 j.val) (row (k2_pay4 x0 x1 x2 x6) j.val)) (ix2 n q) : EReal)
      = a.h (256 * τ.val + j.val + 1) (ch κ q) n := by
  have ht : Fin.ofNat 2048 (256 * τ.val + j.val) = tm τ j := Fin.ext (Nat.mod_eq_of_lt (by omega))
  have e9 : (k2_pay9 (k2_pay5 x5) k2_pay6 (row (k2_pay3 x0 x1 x2) j.val) (ix2 n q) : EReal)
      = Ideal.exp (a.dt (tm τ j) (ch κ q) * a.A (ch κ q) n) := by
    have hA : (0 - Ideal.exp (x5 (ix2 n q)) : EReal) = a.A (ch κ q) n := by
      rw [H.h5 n q, zero_sub]; rfl
    refine Eq.trans ?_ (congrArg Ideal.exp (congrArg₂ (· * ·) ((row_apply (k2_pay3 x0 x1 x2) j q).trans (dt_block' H j q)) hA))
    pointwise [k2_pay9, k2_pay7, k2_pay5, k2_pay6]
  have e10 : (k2_pay10 (rows16 x3 j.val) (row (k2_pay4 x0 x1 x2 x6) j.val) (ix2 n q) : EReal)
      = a.dt (tm τ j) (ch κ q) * a.u (tm τ j) (ch κ q) * a.B (tm τ j) n := by
    refine Eq.trans ?_ (congrArg₂ (· * ·) ((row_apply (k2_pay4 x0 x1 x2 x6) j q).trans (du_block H j q))
      (spread_apply (rows16 x3 j.val) n q (a.B (tm τ j) n) fun l => (rows16_apply x3 j n l).trans (H.h3 j n l)))
    pointwise [k2_pay10, k2_pay11]
  rw [Cert.Own.Args.h, ht]
  refine Eq.trans (b := (S (ix2 n q) * k2_pay9 (k2_pay5 x5) k2_pay6 (row (k2_pay3 x0 x1 x2) j.val) (ix2 n q)
    + k2_pay10 (rows16 x3 j.val) (row (k2_pay4 x0 x1 x2 x6) j.val) (ix2 n q) : EReal)) ?_ ?_
  · pointwise [k2_pay12]
  · rw [hS, e9, e10]
    exact congrArg (_ + ·) (mul_right_comm _ _ _)

/-- The state after `j` steps of the block. -/
theorem scanSt_apply (H : Blocks a τ κ x0 x1 x2 x3 x4 x5 x6 x7 x8) (S : Vec Ideal S16x512 .f32)
    (hS : ∀ (n : Fin 16) (q : Fin 512), (S (ix2 n q) : EReal) = a.h (256 * τ.val) (ch κ q) n) (j : ℕ) (hj : j ≤ 256) (n : Fin 16) (q : Fin 512) :
    (scanSt (k2_pay5 x5) k2_pay6 (k2_pay3 x0 x1 x2) (k2_pay4 x0 x1 x2 x6) x3 S j (ix2 n q) : EReal) = a.h (256 * τ.val + j) (ch κ q) n := by
  induction j with
  | zero => exact hS n q
  | succ j ih => exact step_block H _ ⟨j, by omega⟩ n q (ih (by omega))

/-- What the block leaves in the state. -/
theorem st2_apply (H : Blocks a τ κ x0 x1 x2 x3 x4 x5 x6 x7 x8) (S : Vec Ideal S16x512 .f32)
    (hS : ∀ (n : Fin 16) (q : Fin 512), (S (ix2 n q) : EReal) = a.h (256 * τ.val) (ch κ q) n) (n : Fin 16) (q : Fin 512) :
    (st2 x0 x1 x2 x3 x5 x6 S (ix2 n q) : EReal) = a.h (256 * τ.val + 256) (ch κ q) n := by
  refine Eq.trans ?_ (scanSt_apply H S hS 256 le_rfl n q)
  unfold st2
  pointwise [k2_pay17]

/-- The block's row of results. -/
theorem scanRow_apply (H : Blocks a τ κ x0 x1 x2 x3 x4 x5 x6 x7 x8) (S : Vec Ideal S16x512 .f32)
    (hS : ∀ (n : Fin 16) (q : Fin 512), (S (ix2 n q) : EReal) = a.h (256 * τ.val) (ch κ q) n) (j : Fin 256) (q : Fin 512) :
    (scanRow (k2_pay5 x5) k2_pay6 (k2_pay3 x0 x1 x2) (k2_pay4 x0 x1 x2 x6) x3 x4 S j.val (ix2 0 q) : EReal)
      = ∑ n : Fin 16, a.h ((tm τ j).val + 1) (ch κ q) n * a.C (tm τ j) n := by
  refine Eq.trans ?_ (Finset.sum_congr rfl fun n _ => congrArg₂ (· * ·)
    (step_block H _ j n q (scanSt_apply H S hS j.val (by omega) n q))
    (spread_apply (rows16 x4 j.val) n q (a.C (tm τ j) n) fun l => (rows16_apply x4 j n l).trans (H.h4 j n l)))
  unfold scanRow
  pointwise [k2_pay13]

/-- The block's results. -/
theorem out_block (H : Blocks a τ κ x0 x1 x2 x3 x4 x5 x6 x7 x8) (S : Vec Ideal S16x512 .f32)
    (hS : ∀ (n : Fin 16) (q : Fin 512), (S (ix2 n q) : EReal) = a.h (256 * τ.val) (ch κ q) n) (r : Fin 256) (q : Fin 512) :
    (out2_9 x0 x1 x2 x3 x4 x5 x6 x7 x8 S (ix2 r q) : EReal) = a.y (tm τ r) (ch κ q) := by
  unfold Cert.Own.Args.y
  refine Eq.trans ?_ (congrArg₂ (· * ·) (congrArg₂ (· + ·) (scanRow_apply H S hS r q) (congrArg₂ (· * ·) (H.h6 r q) (H.h7 q))) (H.h8 r q))
  unfold out2_9
  pointwise [k2_pay1, k2_pay18]
  rfl

end Cert.KernelIdeal.Own

end
-- ==== Proof.KVal2.lean ====
/-
What region 2 of the kernel leaves - the scanned output - and region 3, and the kernel's result.
-/
module

public import proofs.«01_k».proof.Proof.KVal0
public import proofs.«01_k».proof.Proof.ScanVal
public import Idealize.ShloMosaic.Lib.Pointwise
public import Idealize.ShloMosaic.Lib.Pipeline.ValueKit

@[expose] public section

set_option maxRecDepth 16384
set_option maxHeartbeats 4000000
set_option Elab.async false

noncomputable section

namespace Cert.KernelIdeal.Own

open Cert.KernelIdeal Cert.KernelIdeal.Gen
open Idealize.ShloMosaic Idealize.ShloMosaic.TcCoe
open Cert.Own (silu half sp Args)

open Idealize.ShloMosaic.StableHlo

variable (m : (ℓ : Loc nD τ sig) → Buf (Elt Ideal) ℓ) (c : Dev nD)

/-! ## What region 2 is entered with -/

/-- The activated convolution before region 2. -/
theorem W4_u : (W4 m c (Proc.devRef .tc main_v5_0) : Vec Ideal S2048x2048 .f32) = uArr (args m c) :=
  (W4_of m c main_v5_0 (by decide +kernel)).trans ((W3_of m c main_v5_0 (by decide +kernel)).trans (W2_u m c))

/-- The gate before region 2. -/
theorem W4_g : (W4 m c (Proc.devRef .tc main_v5_1) : Vec Ideal S2048x2048 .f32) = gArr (args m c) :=
  (W4_of m c main_v5_1 (by decide +kernel)).trans ((W3_of m c main_v5_1 (by decide +kernel)).trans (W2_g m c))

/-! ## The blocks of a grid point -/

/-- The block of tokens of a grid point. -/
def tb (p : Fin cfg2.N) : Fin 8 := ⟨p.val % 8, by omega⟩

/-- The block of channels of a grid point. -/
def cb (p : Fin cfg2.N) : Fin 4 := ⟨p.val / 8, by have h : p.val < 32 := Nat.lt_of_lt_of_eq p.isLt N_2; omega⟩

/-- Where the block of each grid point of region 2 lies in its array. -/
theorem idx2_0 : ∀ p : Fin cfg2.N, win2_0.index p = ![p.val % 8, 0] := by decide +kernel
/-- Where the block of each grid point of region 2 lies in its array. -/
theorem idx2_1 : ∀ p : Fin cfg2.N, win2_1.index p = ![p.val % 8 / 4, p.val / 8, 0] := by decide +kernel
/-- Where the block of each grid point of region 2 lies in its array. -/
theorem idx2_2 : ∀ p : Fin cfg2.N, win2_2.index p = ![p.val % 8 / 4, 0, p.val / 8] := by decide +kernel
/-- Where the block of each grid point of region 2 lies in its array. -/
theorem idx2_3 : ∀ p : Fin cfg2.N, win2_3.index p = ![p.val % 8, 0] := by decide +kernel
/-- Where the block of each grid point of region 2 lies in its array. -/
theorem idx2_4 : ∀ p : Fin cfg2.N, win2_4.index p = ![p.val % 8, 0] := by decide +kernel
/-- Where the block of each grid point of region 2 lies in its array. -/
theorem idx2_5 : ∀ p : Fin cfg2.N, win2_5.index p = ![0, p.val / 8] := by decide +kernel
/-- Where the block of each grid point of region 2 lies in its array. -/
theorem idx2_6 : ∀ p : Fin cfg2.N, win2_6.index p = ![p.val % 8, p.val / 8] := by decide +kernel
/-- Where the block of each grid point of region 2 lies in its array. -/
theorem idx2_7 : ∀ p : Fin cfg2.N, win2_7.index p = ![0, p.val / 8] := by decide +kernel
/-- Where the block of each grid point of region 2 lies in its array. -/
theorem idx2_8 : ∀ p : Fin cfg2.N, win2_8.index p = ![p.val % 8, p.val / 8] := by decide +kernel
/-- Where the block of each grid point of region 2 lies in its array. -/
theorem idx2_9 : ∀ p : Fin cfg2.N, win2_9.index p = ![p.val % 8, p.val / 8] := by decide +kernel

/-- Region 2's inputs of the step sizes. -/
theorem blk2_0 (p : Fin cfg2.N) (r : Fin 256) (k : Fin 64) :
    (blk2 (U4 m) c 0 p : Vec Ideal S256x64 .f32) (ix2 r k) = ((args m c).dbl (tm (tb p) r) ⟨k.val, by omega⟩ : EReal) := by
  refine Eq.trans (b := (W4 m c (Proc.devRef .tc main_v7) : Vec Ideal S2048x64 .f32) (ix2 (tm (tb p) r) k)) ?_
    ((read_v7 (W3 m c) _ _).trans (congrFun (W3_dbl m c) _))
  refine congrArg (W4 m c (Proc.devRef .tc main_v7) : Vec Ideal S2048x64 .f32) ?_
  blk_ext [idx2_0, tm, tb]

/-- Region 2's weights of the step sizes, of the half the block's tokens lie in. -/
theorem blk2_1 (p : Fin cfg2.N) (r : Fin 256) (q : Fin 512) (k : Fin 64) :
    (blk2 (U4 m) c 1 p : Vec Ideal S1x512x64 .f32) (ix3 0 q k) = ((args m c).wdt (half (tm (tb p) r)) (ch (cb p) q) k : EReal) := by
  refine Eq.trans (b := (W4 m c (Proc.devRef .tc main_arg6) : Vec Ideal S2x2048x64 .f32) (ix3 (half (tm (tb p) r)) (ch (cb p) q) k)) ?_
    (congrFun (W4_args m c main_arg6 (by decide +kernel)) _)
  refine congrArg (W4 m c (Proc.devRef .tc main_arg6) : Vec Ideal S2x2048x64 .f32) ?_
  blk_ext [idx2_1, tm, tb, half, ch, cb]

/-- Region 2's bias of the step sizes, of the same half. -/
theorem blk2_2 (p : Fin cfg2.N) (r : Fin 256) (q : Fin 512) :
    (blk2 (U4 m) c 2 p : Vec Ideal S1x1x512 .f32) (ix3 0 0 q) = ((args m c).bdt (half (tm (tb p) r)) (ch (cb p) q) : EReal) := by
  refine Eq.trans (b := (W4 m c (Proc.devRef .tc main_v17) : Vec Ideal S2x1x2048 .f32) (ix3 (half (tm (tb p) r)) 0 (ch (cb p) q))) ?_
    ((read_v17 (W3 m c) _ _).trans (congrFun (W3_args m c main_arg7 (by decide +kernel)) _))
  refine congrArg (W4 m c (Proc.devRef .tc main_v17) : Vec Ideal S2x1x2048 .f32) ?_
  blk_ext [idx2_2, tm, tb, half, ch, cb]

/-- The row of a block of rows, one per token and state entry. -/
theorem rows_at (τ : Fin 8) (r : Fin 256) (n : Fin 16) : 4096 * τ.val + (16 * r.val + n.val) < 32768 := by omega

/-- Region 2's input weights of the state, one row per token and state entry. -/
theorem blk2_3 (p : Fin cfg2.N) (r : Fin 256) (n : Fin 16) (l : Fin 128) :
    (blk2 (U4 m) c 3 p : Vec Ideal S4096x128 .f32) (ix2 (⟨16 * r.val + n.val, by omega⟩ : Fin 4096) l) = ((args m c).B (tm (tb p) r) n : EReal) := by
  refine Eq.trans (b := (W4 m c (Proc.devRef .tc main_v11) : Vec Ideal S32768x128 .f32) (ix2 (⟨4096 * (tb p).val + (16 * r.val + n.val), rows_at _ r n⟩ : Fin 32768) l)) ?_
    ((read_v11 (W3 m c) _ _).trans ((congrFun (W3_dbl m c) _).trans (congrArg₂ (args m c).dbl (Fin.ext ?_) (Fin.ext ?_))))
  · refine congrArg (W4 m c (Proc.devRef .tc main_v11) : Vec Ideal S32768x128 .f32) ?_
    blk_ext [idx2_3, tb]
  · show (4096 * (tb p).val + (16 * r.val + n.val)) / 16 = 256 * (tb p).val + r.val
    omega
  · show 64 + (4096 * (tb p).val + (16 * r.val + n.val)) % 16 = 64 + n.val
    omega

/-- Region 2's output weights of the state, one row per token and state entry. -/
theorem blk2_4 (p : Fin cfg2.N) (r : Fin 256) (n : Fin 16) (l : Fin 128) :
    (blk2 (U4 m) c 4 p : Vec Ideal S4096x128 .f32) (ix2 (⟨16 * r.val + n.val, by omega⟩ : Fin 4096) l) = ((args m c).C (tm (tb p) r) n : EReal) := by
  refine Eq.trans (b := (W4 m c (Proc.devRef .tc main_v15) : Vec Ideal S32768x128 .f32) (ix2 (⟨4096 * (tb p).val + (16 * r.val + n.val), rows_at _ r n⟩ : Fin 32768) l)) ?_
    ((read_v15 (W3 m c) _ _).trans ((congrFun (W3_dbl m c) _).trans (congrArg₂ (args m c).dbl (Fin.ext ?_) (Fin.ext ?_))))
  · refine congrArg (W4 m c (Proc.devRef .tc main_v15) : Vec Ideal S32768x128 .f32) ?_
    blk_ext [idx2_4, tb]
  · show (4096 * (tb p).val + (16 * r.val + n.val)) / 16 = 256 * (tb p).val + r.val
    omega
  · show 80 + (4096 * (tb p).val + (16 * r.val + n.val)) % 16 = 80 + n.val
    omega

/-- Region 2's logarithms of the rates. -/
theorem blk2_5 (p : Fin cfg2.N) (n : Fin 16) (q : Fin 512) :
    (blk2 (U4 m) c 5 p : Vec Ideal S16x512 .f32) (ix2 n q) = ((args m c).alog (ch (cb p) q) n : EReal) := by
  refine Eq.trans (b := (W4 m c (Proc.devRef .tc main_v16) : Vec Ideal S16x2048 .f32) (ix2 n (ch (cb p) q))) ?_
    ((read_v16 (W3 m c) _ _).trans (congrFun (W3_args m c main_arg8 (by decide +kernel)) _))
  refine congrArg (W4 m c (Proc.devRef .tc main_v16) : Vec Ideal S16x2048 .f32) ?_
  blk_ext [idx2_5, ch, cb]

/-- Region 2's activated convolution. -/
theorem blk2_6 (p : Fin cfg2.N) (r : Fin 256) (q : Fin 512) :
    (blk2 (U4 m) c 6 p : Vec Ideal S256x512 .f32) (ix2 r q) = ((args m c).u (tm (tb p) r) (ch (cb p) q) : EReal) := by
  refine Eq.trans (b := (W4 m c (Proc.devRef .tc main_v5_0) : Vec Ideal S2048x2048 .f32) (ix2 (tm (tb p) r) (ch (cb p) q))) ?_ (congrFun (W4_u m c) _)
  refine congrArg (W4 m c (Proc.devRef .tc main_v5_0) : Vec Ideal S2048x2048 .f32) ?_
  blk_ext [idx2_6, tm, tb, ch, cb]

/-- Region 2's skip weights. -/
theorem blk2_7 (p : Fin cfg2.N) (q : Fin 512) :
    (blk2 (U4 m) c 7 p : Vec Ideal S1x512 .f32) (ix2 0 q) = ((args m c).dv (ch (cb p) q) : EReal) := by
  refine Eq.trans (b := (W4 m c (Proc.devRef .tc main_v18) : Vec Ideal S1x2048 .f32) (ix2 0 (ch (cb p) q))) ?_
    ((read_v18 (W3 m c) _).trans (congrFun (W3_args m c main_arg9 (by decide +kernel)) _))
  refine congrArg (W4 m c (Proc.devRef .tc main_v18) : Vec Ideal S1x2048 .f32) ?_
  blk_ext [idx2_7, ch, cb]

/-- Region 2's gate. -/
theorem blk2_8 (p : Fin cfg2.N) (r : Fin 256) (q : Fin 512) :
    (blk2 (U4 m) c 8 p : Vec Ideal S256x512 .f32) (ix2 r q) = (silu ((args m c).z (tm (tb p) r) (ch (cb p) q)) : EReal) := by
  refine Eq.trans (b := (W4 m c (Proc.devRef .tc main_v5_1) : Vec Ideal S2048x2048 .f32) (ix2 (tm (tb p) r) (ch (cb p) q))) ?_ (congrFun (W4_g m c) _)
  refine congrArg (W4 m c (Proc.devRef .tc main_v5_1) : Vec Ideal S2048x2048 .f32) ?_
  blk_ext [idx2_8, tm, tb, ch, cb]

/-- The blocks of every grid point hold what the scan of its tokens and channels needs. -/
theorem blocks (p : Fin cfg2.N) :
    Blocks (args m c) (tb p) (cb p) (blk2 (U4 m) c 0 p) (blk2 (U4 m) c 1 p) (blk2 (U4 m) c 2 p) (blk2 (U4 m) c 3 p) (blk2 (U4 m) c 4 p)
      (blk2 (U4 m) c 5 p) (blk2 (U4 m) c 6 p) (blk2 (U4 m) c 7 p) (blk2 (U4 m) c 8 p) where
  h0 := blk2_0 m c p
  h1 := blk2_1 m c p
  h2 := blk2_2 m c p
  h3 := blk2_3 m c p
  h4 := blk2_4 m c p
  h5 := blk2_5 m c p
  h6 := blk2_6 m c p
  h7 := blk2_7 m c p
  h8 := blk2_8 m c p

/-! ## The state and the results -/

/-- The state a grid point starts from is the recurrence's before the point's first token. -/
theorem start_apply (k : ℕ) (hk : k < 32) (n : Fin 16) (q : Fin 512) :
    (start (U4 m) c k (ix2 n q) : EReal) = (args m c).h (256 * (k % 8)) (ch ⟨k / 8, by omega⟩ q) n := by
  induction k generalizing n q with
  | zero =>
    unfold start
    rw [if_pos (by omega)]
    show (k2_pay8 (F := Ideal) (ix2 n q) : EReal) = 0
    pointwise [k2_pay8]
  | succ k ih =>
    unfold start
    by_cases h : (k + 1) % 8 = 0
    · rw [if_pos h, h]
      show (k2_pay8 (F := Ideal) (ix2 n q) : EReal) = 0
      pointwise [k2_pay8]
    · rw [if_neg h]
      have hp : k < cfg2.N := Nat.lt_of_lt_of_eq (by omega : k < 32) N_2.symm
      rw [carried_succ (U4 m) c ⟨k, hp⟩]
      refine (st2_apply (blocks m c ⟨k, hp⟩) _ (fun n q => ih (by omega) n q) n q).trans ?_
      have e : 256 * ((k + 1) % 8) = 256 * (k % 8) + 256 := by omega
      have e' : (⟨(k + 1) / 8, by omega⟩ : Fin 4) = cb ⟨k, hp⟩ := Fin.ext (by show (k + 1) / 8 = k / 8; omega)
      rw [e, e']
      rfl

/-- The scanned output with skip and gate, as an array. -/
def yArr (a : Args) : Vec Ideal S2048x2048 .f32 := fun i => (a.y (i 0) (i 1) : EReal)

/-- Region 2 leaves the scanned rows with skip and gate. -/
theorem W5_y : (W5 m c (Proc.devRef .tc main_v19) : Vec Ideal S2048x2048 .f32) = yArr (args m c) := by
  refine (W5_arr m c 9).trans ?_
  refine (dat2 (U4 m) c).arrAt_eq_of_covers 9 _ (by decide +kernel) fun p hf y => ?_
  blk_simp
  rw [after2_9]
  idx_vars y
  have e : ((View.whole main_v19).slice (win2_9.rect p)).emb (ix2 y0 y1) = ix2 (tm (tb p) y0) (ch (cb p) y1) := by
    blk_ext [idx2_9, tm, tb, ch, cb]
  rw [e]
  exact out_block (blocks m c p) _ (fun n q => start_apply m c p.val (Nat.lt_of_lt_of_eq p.isLt N_2) n q) y0 y1

/-! ## Region 3 and the result -/

/-- Where the block of region 3 lies in its array. -/
theorem idx3_0 : ∀ t : Fin cfg3.N, win3_0.index t = ![0, 0] := by decide +kernel
/-- Where the block of region 3 lies in its array. -/
theorem idx3_1 : ∀ t : Fin cfg3.N, win3_1.index t = ![0, 0, 0] := by decide +kernel
/-- Where the block of region 3 lies in its array. -/
theorem idx3_2 : ∀ t : Fin cfg3.N, win3_2.index t = ![0, 0] := by decide +kernel

/-- Region 3's rows. -/
theorem blk3_0 (p : Fin cfg3.N) (t : Fin 2048) (d : Fin 2048) :
    (blk3 (U5 m) c 0 p : Vec Ideal S2048x2048 .f32) (ix2 t d) = ((args m c).y t d : EReal) := by
  refine Eq.trans (b := (W5 m c (Proc.devRef .tc main_v19) : Vec Ideal S2048x2048 .f32) (ix2 t d)) ?_ (congrFun (W5_y m c) _)
  refine congrArg (W5 m c (Proc.devRef .tc main_v19) : Vec Ideal S2048x2048 .f32) ?_
  blk_ext [idx3_0]

/-- Region 3's weights. -/
theorem blk3_1 (p : Fin cfg3.N) (i : Fin 2) (e : Fin 1024) (d : Fin 2048) :
    (blk3 (U5 m) c 1 p : Vec Ideal S2x1024x2048 .f32) (ix3 i e d) = ((args m c).wo i e d : EReal) := by
  refine Eq.trans (b := (W5 m c (Proc.devRef .tc main_arg10) : Vec Ideal S2x1024x2048 .f32) (ix3 i e d)) ?_ (congrFun (W5_args m c main_arg10 (by decide +kernel)) _)
  refine congrArg (W5 m c (Proc.devRef .tc main_arg10) : Vec Ideal S2x1024x2048 .f32) ?_
  blk_ext [idx3_1]

/-- The result, as an array of rows. -/
def outArr (a : Args) : Vec Ideal S2048x1024 .f32 := fun i => (a.out (i 0) (i 1) : EReal)

/-- Region 3 leaves the result. -/
theorem W6_out : (W6 m c (Proc.devRef .tc main_v20) : Vec Ideal S2048x1024 .f32) = outArr (args m c) := by
  refine (W6_arr m c 2).trans ?_
  refine (dat3 (U5 m) c).arrAt_eq_of_covers 2 _ (by decide +kernel) fun p hf y => ?_
  blk_simp
  rw [after3_2]
  idx_vars y
  have e : ((View.whole main_v20).slice (win3_2.rect p)).emb (ix2 y0 y1) = ix2 y0 y1 := by blk_ext [idx3_2]
  rw [e]
  refine (wo_block (blk3 (U5 m) c 0 p : Vec Ideal S2048x2048 .f32) (blk3 (U5 m) c 1 p : Vec Ideal S2x1024x2048 .f32) y0 y1).trans ?_
  exact Finset.sum_congr rfl fun k _ => congrArg₂ (fun x y : EReal => x * y) (blk3_0 m c p y0 k) (blk3_1 m c p (half y0) y1 k)

/-- The kernel's result. -/
theorem value (t : Fin 2048) (e : Fin 1024) :
    (W7 m c (Proc.devRef .tc main_v21) : Vec Ideal S1x2048x1024 .f32) (ix3 0 t e) = ((args m c).out t e : EReal) :=
  (read_v21 (W6 m c) t e).trans (congrFun (W6_out m c) _)

end Cert.KernelIdeal.Own

end
-- ==== Proof.Moe.lean ====
/-
The reference's linear map by halves: the tokens of one half are gathered, multiplied by that half's matrix, and scattered
back to their rows. With the index table counting the tokens in order, the result at token `t` is the product of row `t`
with the matrix of the half that `t` lies in. One definition and one reading serve all four maps of the reference.
-/
module

public import proofs.«01_k».proof.Proof.Gen.ReferenceIdeal.Run
public import Idealize.ShloMosaic.Lib.Tactic
public import Idealize.ShloMosaic.Lib.ValueIdx
public import Idealize.ShloMosaic.Lib.IdealHost
public import Idealize.ShloMosaic.Lib.StackMember
public import Idealize.ShloMosaic.Lib.Routing.OpsSet
public import Idealize.ShloMosaic.Lib.Routing.OpsPair
public import Idealize.ShloMosaic.Lib.StableHlo.Predicate
public import Idealize.ShloMosaic.Lib.Pipeline.Value

@[expose] public section

set_option maxRecDepth 16384

noncomputable section

namespace Cert.ReferenceIdeal.Own

open Cert.ReferenceIdeal Cert.ReferenceIdeal.Gen
open Idealize.ShloMosaic
open Idealize.ShloMosaic.ValueIdx

/-- A shape of rank 2. -/
abbrev Sh2 (a b : ℕ) : Shape := ⟨2, ![a, b]⟩
/-- A shape of rank 3. -/
abbrev Sh3 (a b c : ℕ) : Shape := ⟨3, ![a, b, c]⟩

/-- An update row of a scatter of rows lands at the row its index word names, each entry in its own column. -/
theorem resultIdx_row {M n C : ℕ} (d : ScatterDims (Sh2 M C) (Sh2 n 1) (Sh2 n C)) (huw : d.updateWindowDims = [1])
    (hiw : d.insertedWindowDims = [0]) (hsd : d.scatterDimsToOperandDims = [0]) (hivd : d.indexVectorDim = 1)
    (idx : IVec (Sh2 n 1) 32) (i : Fin n) (y : Fin C) (t : Fin M) (e : Fin C) :
    d.resultIdx? (ix2 i y) idx = some (ix2 t e) ↔ (idx (ix2 i (0 : Fin 1))).toInt = (t.val : Int) ∧ y = e := by
  obtain ⟨uw, iw, sd, iv, wf⟩ := d
  obtain rfl : uw = [1] := huw
  obtain rfl : iw = [0] := hiw
  obtain rfl : sd = [0] := hsd
  obtain rfl : iv = 1 := hivd
  set d : ScatterDims (Sh2 M C) (Sh2 n 1) (Sh2 n C) := ⟨[1], [0], [0], 1, wf⟩ with hd
  have hw0 : d.window (ix2 i y) 0 = 0 := rfl
  have hw1 : d.window (ix2 i y) 1 = y.val := rfl
  have hs1 : d.start (ix2 i y) idx 1 = 0 := rfl
  have hs0 : d.start (ix2 i y) idx 0 = (idx (ix2 i (0 : Fin 1))).toInt := by
    unfold ScatterDims.start
    rw [dif_pos (show (0 : Fin 2) ∈ d.scatterDimsToOperandDims from List.mem_singleton.2 rfl)]
    refine congrArg (fun q => (idx q).toInt) ?_
    funext b
    apply Fin.ext
    match b with
    | ⟨0, _⟩ => rfl
    | ⟨1, _⟩ => rfl
  have ht := t.isLt
  have hy := y.isLt
  unfold ScatterDims.resultIdx?
  split
  · next h =>
    have h0 := h 0
    change 0 ≤ d.start (ix2 i y) idx 0 + (d.window (ix2 i y) 0 : Int) ∧ _ at h0
    rw [hs0, hw0] at h0
    constructor
    · intro q
      have e0 := congrArg Fin.val (congrFun (Option.some.inj q) 0)
      have e1 := congrArg Fin.val (congrFun (Option.some.inj q) 1)
      change (d.start (ix2 i y) idx 0 + (d.window (ix2 i y) 0 : Int)).toNat = t.val at e0
      change (d.start (ix2 i y) idx 1 + (d.window (ix2 i y) 1 : Int)).toNat = e.val at e1
      rw [hs0, hw0] at e0
      rw [hs1, hw1] at e1
      exact ⟨by omega, Fin.ext (by omega)⟩
    · rintro ⟨q, rfl⟩
      refine congrArg some (funext fun a => Fin.ext ?_)
      match a with
      | ⟨0, _⟩ =>
        show (d.start (ix2 i y) idx 0 + (d.window (ix2 i y) 0 : Int)).toNat = t.val
        rw [hs0, hw0]; omega
      | ⟨1, _⟩ =>
        show (d.start (ix2 i y) idx 1 + (d.window (ix2 i y) 1 : Int)).toNat = y.val
        rw [hs1, hw1]; omega
  · next h =>
    constructor
    · intro q; cases q
    · rintro ⟨q, rfl⟩
      refine (h fun a => ?_).elim
      match a with
      | ⟨0, _⟩ =>
        show 0 ≤ d.start (ix2 i y) idx 0 + (d.window (ix2 i y) 0 : Int) ∧ d.start (ix2 i y) idx 0 + (d.window (ix2 i y) 0 : Int) < (M : Int)
        rw [hs0, hw0]; omega
      | ⟨1, _⟩ =>
        show 0 ≤ d.start (ix2 i y) idx 1 + (d.window (ix2 i y) 1 : Int) ∧ d.start (ix2 i y) idx 1 + (d.window (ix2 i y) 1 : Int) < (C : Int)
        rw [hs1, hw1]; omega

/-- A scatter of rows read at row `t` and column `e`, the index words counting up from `o`: the update's row `t - o` where
    there is one, else the operand's. -/
theorem scatter_rows {α : Type} {M n C : ℕ} (hM : M < 2 ^ 31) (d : ScatterDims (Sh2 M C) (Sh2 n 1) (Sh2 n C)) (huw : d.updateWindowDims = [1])
    (hiw : d.insertedWindowDims = [0]) (hsd : d.scatterDimsToOperandDims = [0]) (hivd : d.indexVectorDim = 1)
    (x0 : (Sh2 M C).Idx → α) (idx : IVec (Sh2 n 1) 32) (upd : (Sh2 n C).Idx → α) (o : ℕ) (ho : o + n ≤ M)
    (hi : ∀ i : Fin n, idx (ix2 i (0 : Fin 1)) = BitVec.ofNat 32 (o + i.val)) (t : Fin M) (e : Fin C) :
    Host.scatter d (fun _ b => b) x0 idx upd (ix2 t e)
      = if h : o ≤ t.val ∧ t.val - o < n then upd (ix2 ⟨t.val - o, h.2⟩ e) else x0 (ix2 t e) := by
  have hI : ∀ i : Fin n, (idx (ix2 i (0 : Fin 1))).toInt = ((o + i.val : ℕ) : Int) := fun i => by
    have := i.isLt
    rw [hi i, StableHlo.Predicate.toInt_ofNat_small _ (by omega)]
  have lands : ∀ j : (Sh2 n C).Idx, d.resultIdx? j idx = some (ix2 t e) → o + (j 0).val = t.val ∧ j 1 = e := fun j hj => by
    have h := (resultIdx_row d huw hiw hsd hivd idx (j 0) (j 1) t e).1 ((congrArg (fun q => d.resultIdx? q idx) (eq_ix2 j).symm).trans hj)
    have h1 := h.1
    have h2 := hI (j 0)
    exact ⟨by exact_mod_cast h2.symm.trans h1, h.2⟩
  by_cases h : o ≤ t.val ∧ t.val - o < n
  · rw [dif_pos h]
    refine Routing.scatter_set_hit d x0 idx upd _ _ (fun j hj => ?_) (ix2 ⟨t.val - o, h.2⟩ e) ?_
    · have hl := lands j hj
      rw [eq_ix2 j, hl.2]
      exact congrArg (fun q => upd (ix2 q e)) (Fin.ext (by show (j 0).val = t.val - o; omega))
    · rw [resultIdx_row d huw hiw hsd hivd, hI]
      exact ⟨by show ((o + (t.val - o) : ℕ) : Int) = _; rw [show o + (t.val - o) = t.val by omega], rfl⟩
  · rw [dif_neg h]
    refine Routing.scatter_set_miss d x0 idx upd _ fun j hj => h ?_
    have hl := lands j hj
    have hj0 : (j 0).val < n := (j 0).isLt
    exact ⟨by omega, by omega⟩

variable {F : FTy → Type} [FloatOps F]

/-- One half's index words, of its row of the index table: a negative word is moved up by the number of tokens. -/
def words (off : Fin 2 → ℕ) (hs : S2x1024.Slices off S1x1024) (mm : IVec S2x1024 32) : IVec S1024x1 32 :=
  broadcastInDim S1024x1 ![0] bcast_S1024_S1024x1_0
    (select (cmpi .slt (shapeCast S1024 (extractStridedSlice S1x1024 off mm hs) shapeCasts_S1x1024_S1024)
        (broadcastInDim S1024 ![] bcast_S_S1024 (constantI S_ 32 0#32)))
      (addi (shapeCast S1024 (extractStridedSlice S1x1024 off mm hs) shapeCasts_S1x1024_S1024)
        (broadcastInDim S1024 ![] bcast_S_S1024 (constantI S_ 32 2048#32)))
      (shapeCast S1024 (extractStridedSlice S1x1024 off mm hs) shapeCasts_S1x1024_S1024))

/-- The index table counts the tokens in order. -/
def InOrder (mm : IVec S2x1024 32) : Prop := ∀ (a : Fin 2) (k : Fin 1024), mm (ix2 a k) = BitVec.ofNat 32 (a.val * 1024 + k.val)

/-- Of a table in order, one half's words count up from the half's first token. -/
theorem words_apply (mm : IVec S2x1024 32) (hm : InOrder mm) (a : Fin 2) (off : Fin 2 → ℕ) (h0 : off 0 = a.val) (h1 : off 1 = 0)
    (hs : S2x1024.Slices off S1x1024) (k : Fin 1024) :
    words off hs mm (ix2 k (0 : Fin 1)) = BitVec.ofNat 32 (a.val * 1024 + k.val) := by
  have hk := k.isLt
  have ha := a.isLt
  have hx : shapeCast S1024 (extractStridedSlice S1x1024 off mm hs) shapeCasts_S1x1024_S1024 (ix1 k) = BitVec.ofNat 32 (a.val * 1024 + k.val) := by
    rw [shapeCast_apply _ _ (ix1 k) (ix2 (0 : Fin 1) k) (by
      rw [Shape.rowMajor_val_one, Shape.rowMajor_val_two]; simp [ix1, ix2])]
    rw [extractStridedSlice_apply off mm hs (ix2 (0 : Fin 1) k) (ix2 a k) (fun b => by
      match b with
      | ⟨0, _⟩ => show a.val = off 0 + 0; omega
      | ⟨1, _⟩ => show k.val = off 1 + k.val; omega)]
    exact hm a k
  unfold words
  rw [broadcastInDim_apply _ _ _ _ (ix1 k) (fun b => by
    obtain rfl : b = 0 := Subsingleton.elim _ _
    rfl)]
  show Scalar.select (IntOp.cmpi .slt (shapeCast S1024 (extractStridedSlice S1x1024 off mm hs) shapeCasts_S1x1024_S1024 (ix1 k)) 0#32) _ _ = _
  rw [hx]
  exact Routing.wrap_of_lt _ _ (by
    rw [BitVec.toNat_ofNat]
    exact Nat.lt_of_le_of_lt (Nat.mod_le _ _) (by show a.val * 1024 + k.val < 2 ^ 31; omega))

section Map
variable {K C : ℕ}

/-- One half's product: the half's rows gathered, times the transpose of the half's matrix. -/
def halfDot (dg : GatherDims (Sh2 2048 K) S1024x1 (Sh2 1024 K)) (dd : DotDims (Sh2 1024 K) (Sh2 K C) (Sh2 1024 C))
    (hc : (Sh3 1 C K).ShapeCasts (Sh2 C K)) (ht : (Sh2 C K).Transposes [1, 0] (Sh2 K C))
    (off : Fin 2 → ℕ) (hs : S2x1024.Slices off S1x1024) (ow : Fin 3 → ℕ) (hw : (Sh3 2 C K).Slices ow (Sh3 1 C K))
    (x : FVec F (Sh2 2048 K) .f32) (mm : IVec S2x1024 32) (W : FVec F (Sh3 2 C K) .f32) : FVec F (Sh2 1024 C) .f32 :=
  Host.dotGeneral dd none (Host.gather dg x (words off hs mm))
    (transpose (Sh2 K C) [1, 0] (shapeCast (Sh2 C K) (extractStridedSlice (Sh3 1 C K) ow W hw) hc) ht)

/-- Both halves' rows, each scattered to its tokens, over zeros. -/
def scatterHalves (ds : ScatterDims (Sh2 2048 C) S1024x1 (Sh2 1024 C)) (hz : S_.BroadcastsInDim (Sh2 2048 C) (![] : Fin 0 → Fin 2))
    (mm : IVec S2x1024 32) (u0 u1 : FVec F (Sh2 1024 C) .f32) : FVec F (Sh2 2048 C) .f32 :=
  Host.scatter ds (fun _ b => b)
    (Host.scatter ds (fun _ b => b) (broadcastInDim (Sh2 2048 C) ![] hz (constant S_ .f32 0x00000000#32))
      (words ![0, 0] slices_S2x1024_S1x1024_0_0 mm) u0)
    (words ![1, 0] slices_S2x1024_S1x1024_1_0 mm) u1

/-- One half's product at the half's row `k`: row `a * 1024 + k` times the half's matrix. -/
theorem halfDot_apply (dg : GatherDims (Sh2 2048 K) S1024x1 (Sh2 1024 K)) (hoff : dg.offsetDims = [1])
    (hcoll : dg.collapsedSliceDims = [0]) (hob : dg.operandBatchingDims = []) (hsim : dg.startIndexMap = [0]) (hivd : dg.indexVectorDim = 1)
    (dd : DotDims (Sh2 1024 K) (Sh2 K C) (Sh2 1024 C)) (hdd : dd = DotDims.plain 1024 K C)
    (hc : (Sh3 1 C K).ShapeCasts (Sh2 C K)) (ht : (Sh2 C K).Transposes [1, 0] (Sh2 K C))
    (a : Fin 2) (off : Fin 2 → ℕ) (h0 : off 0 = a.val) (h1 : off 1 = 0) (hs : S2x1024.Slices off S1x1024)
    (ow : Fin 3 → ℕ) (hw : (Sh3 2 C K).Slices ow (Sh3 1 C K)) (w0 : ow 0 = a.val) (w1 : ow 1 = 0) (w2 : ow 2 = 0)
    (x : FVec Ideal (Sh2 2048 K) .f32) (mm : IVec S2x1024 32) (hm : InOrder mm) (W : FVec Ideal (Sh3 2 C K) .f32) (k : Fin 1024) (e : Fin C)
    (t : Fin 2048) (htk : t.val = a.val * 1024 + k.val) :
    halfDot dg dd hc ht off hs ow hw x mm W (ix2 k e) = ∑ c : Fin K, x (ix2 t c) * W (ix3 a e c) := by
  subst hdd
  unfold halfDot
  rw [StackMember.dotGeneral_plain_apply]
  refine Finset.sum_congr rfl fun c _ => ?_
  have g : Host.gather dg x (words off hs mm) (ix2 k c) = x (ix2 t c) :=
    Routing.gather_row dg hoff hcoll hob hsim hivd x _ k c t (by rw [words_apply mm hm a off h0 h1 hs k, htk]) (by decide)
  have q : transpose (Sh2 K C) [1, 0] (shapeCast (Sh2 C K) (extractStridedSlice (Sh3 1 C K) ow W hw) hc) ht (ix2 c e) = W (ix3 a e c) := by
    rw [transpose_apply [1, 0] _ ht (ix2 c e) (ix2 e c) (fun b => by
      match b with
      | ⟨0, _⟩ => rfl
      | ⟨1, _⟩ => rfl)]
    rw [shapeCast_apply _ hc (ix2 e c) (ix3 (0 : Fin 1) e c) (by
      rw [Shape.rowMajor_val_two, Shape.rowMajor_val_three]
      show (0 * C + e.val) * K + c.val = e.val * K + c.val
      rw [Nat.zero_mul, Nat.zero_add])]
    exact extractStridedSlice_apply ow W hw (ix3 (0 : Fin 1) e c) (ix3 a e c) (fun b => by
      match b with
      | ⟨0, _⟩ => show a.val = ow 0 + 0; omega
      | ⟨1, _⟩ => show e.val = ow 1 + e.val; omega
      | ⟨2, _⟩ => show c.val = ow 2 + c.val; omega)
  rw [g, q]

/-- Both halves scattered, read at token `t`: row `t mod 1024` of the half of `t`. -/
theorem scatterHalves_apply (ds : ScatterDims (Sh2 2048 C) S1024x1 (Sh2 1024 C)) (huw : ds.updateWindowDims = [1])
    (hiw : ds.insertedWindowDims = [0]) (hsd : ds.scatterDimsToOperandDims = [0]) (hivd : ds.indexVectorDim = 1)
    (hz : S_.BroadcastsInDim (Sh2 2048 C) (![] : Fin 0 → Fin 2)) (mm : IVec S2x1024 32) (hm : InOrder mm) (u0 u1 : FVec F (Sh2 1024 C) .f32)
    (G : Fin 2048 → F .f32) (e : Fin C)
    (hu0 : ∀ (k : Fin 1024) (t : Fin 2048), t.val = k.val → u0 (ix2 k e) = G t)
    (hu1 : ∀ (k : Fin 1024) (t : Fin 2048), t.val = 1024 + k.val → u1 (ix2 k e) = G t) (t : Fin 2048) :
    scatterHalves ds hz mm u0 u1 (ix2 t e) = G t := by
  have ht := t.isLt
  unfold scatterHalves
  rw [scatter_rows (by decide) ds huw hiw hsd hivd _ _ _ 1024 (by decide)
    (fun i => by rw [words_apply mm hm 1 ![1, 0] rfl rfl]; rfl)]
  split
  · next h => exact hu1 _ t (by show t.val = 1024 + (t.val - 1024); omega)
  · next h =>
    rw [scatter_rows (by decide) ds huw hiw hsd hivd _ _ _ 0 (by decide)
      (fun i => by rw [words_apply mm hm 0 ![0, 0] rfl rfl]; rfl), dif_pos (by omega)]
    exact hu0 _ t (by show t.val = t.val - 0; omega)

end Map

end Cert.ReferenceIdeal.Own

end
-- ==== Proof.Reads.lean ====
/-
What the reference's host operations compute before the loop over the tokens and after it, one definition per stage: the
four maps by halves, the causal convolution, the two activations; and each stretch's buffers read as those stages of the
stretch's inputs.
-/
module

public import proofs.«01_k».proof.Proof.Moe

@[expose] public section

set_option maxRecDepth 16384
set_option maxHeartbeats 4000000
set_option Elab.async false

noncomputable section

namespace Cert.ReferenceIdeal.Own

open Cert.ReferenceIdeal Cert.ReferenceIdeal.Gen Cert.ReferenceIdeal.Value
open Idealize.ShloMosaic Idealize.ShloMosaic.TcCoe
open Idealize.ShloMosaic.StableHlo
open Idealize.ShloMosaic.ValueIdx

variable {F : FTy → Type} [FloatOps F]

/-- The input projection. -/
def mIn (mm : IVec S2x1024 32) (x : FVec F S2048x1024 .f32) (W : FVec F S2x4096x1024 .f32) : FVec F S2048x4096 .f32 :=
  scatterHalves scatter_S2048x4096_S1024x1_S1024x4096_1_0_0_1 bcast_S_S2048x4096 mm
    (halfDot gather_S2048x1024_S1024x1_S1024x1024_1_0_n_n_0_1_11024 dot_S1024x1024_S1024x4096_S1024x4096_1_0_0_1_n_n
      shapeCasts_S1x4096x1024_S4096x1024 transposes_S4096x1024_S1024x4096_1_0
      ![0, 0] slices_S2x1024_S1x1024_0_0 ![0, 0, 0] slices_S2x4096x1024_S1x4096x1024_0_0_0 x mm W)
    (halfDot gather_S2048x1024_S1024x1_S1024x1024_1_0_n_n_0_1_11024 dot_S1024x1024_S1024x4096_S1024x4096_1_0_0_1_n_n
      shapeCasts_S1x4096x1024_S4096x1024 transposes_S4096x1024_S1024x4096_1_0
      ![1, 0] slices_S2x1024_S1x1024_1_0 ![1, 0, 0] slices_S2x4096x1024_S1x4096x1024_1_0_0 x mm W)

/-- The projection to the step sizes and the input and output weights of the state. -/
def mX (mm : IVec S2x1024 32) (x : FVec F S2048x2048 .f32) (W : FVec F S2x96x2048 .f32) : FVec F S2048x96 .f32 :=
  scatterHalves scatter_S2048x96_S1024x1_S1024x96_1_0_0_1 bcast_S_S2048x96 mm
    (halfDot gather_S2048x2048_S1024x1_S1024x2048_1_0_n_n_0_1_12048 dot_S1024x2048_S2048x96_S1024x96_1_0_0_1_n_n
      shapeCasts_S1x96x2048_S96x2048 transposes_S96x2048_S2048x96_1_0
      ![0, 0] slices_S2x1024_S1x1024_0_0 ![0, 0, 0] slices_S2x96x2048_S1x96x2048_0_0_0 x mm W)
    (halfDot gather_S2048x2048_S1024x1_S1024x2048_1_0_n_n_0_1_12048 dot_S1024x2048_S2048x96_S1024x96_1_0_0_1_n_n
      shapeCasts_S1x96x2048_S96x2048 transposes_S96x2048_S2048x96_1_0
      ![1, 0] slices_S2x1024_S1x1024_1_0 ![1, 0, 0] slices_S2x96x2048_S1x96x2048_1_0_0 x mm W)

/-- One half's bias, one row for every token of the half. -/
def biasRow (ob : Fin 2 → ℕ) (hb : S2x2048.Slices ob S1x2048) (b : FVec F S2x2048 .f32) : FVec F S1024x2048 .f32 :=
  broadcastInDim S1024x2048 ![0, 1] bcast_S1x2048_S1024x2048_0_1
    (broadcastInDim S1x2048 ![1] bcast_S2048_S1x2048_1 (shapeCast S2048 (extractStridedSlice S1x2048 ob b hb) shapeCasts_S1x2048_S2048))

/-- The projection of the step sizes, with its bias. -/
def mDt (mm : IVec S2x1024 32) (x : FVec F S2048x64 .f32) (W : FVec F S2x2048x64 .f32) (b : FVec F S2x2048 .f32) : FVec F S2048x2048 .f32 :=
  scatterHalves scatter_S2048x2048_S1024x1_S1024x2048_1_0_0_1 bcast_S_S2048x2048 mm
    (addf (halfDot gather_S2048x64_S1024x1_S1024x64_1_0_n_n_0_1_164 dot_S1024x64_S64x2048_S1024x2048_1_0_0_1_n_n
      shapeCasts_S1x2048x64_S2048x64 transposes_S2048x64_S64x2048_1_0
      ![0, 0] slices_S2x1024_S1x1024_0_0 ![0, 0, 0] slices_S2x2048x64_S1x2048x64_0_0_0 x mm W) (biasRow ![0, 0] slices_S2x2048_S1x2048_0_0 b))
    (addf (halfDot gather_S2048x64_S1024x1_S1024x64_1_0_n_n_0_1_164 dot_S1024x64_S64x2048_S1024x2048_1_0_0_1_n_n
      shapeCasts_S1x2048x64_S2048x64 transposes_S2048x64_S64x2048_1_0
      ![1, 0] slices_S2x1024_S1x1024_1_0 ![1, 0, 0] slices_S2x2048x64_S1x2048x64_1_0_0 x mm W) (biasRow ![1, 0] slices_S2x2048_S1x2048_1_0 b))

/-- The output projection. -/
def mOut (mm : IVec S2x1024 32) (x : FVec F S2048x2048 .f32) (W : FVec F S2x1024x2048 .f32) : FVec F S2048x1024 .f32 :=
  scatterHalves scatter_S2048x1024_S1024x1_S1024x1024_1_0_0_1 bcast_S_S2048x1024 mm
    (halfDot gather_S2048x2048_S1024x1_S1024x2048_1_0_n_n_0_1_12048 dot_S1024x2048_S2048x1024_S1024x1024_1_0_0_1_n_n
      shapeCasts_S1x1024x2048_S1024x2048 transposes_S1024x2048_S2048x1024_1_0
      ![0, 0] slices_S2x1024_S1x1024_0_0 ![0, 0, 0] slices_S2x1024x2048_S1x1024x2048_0_0_0 x mm W)
    (halfDot gather_S2048x2048_S1024x1_S1024x2048_1_0_n_n_0_1_12048 dot_S1024x2048_S2048x1024_S1024x1024_1_0_0_1_n_n
      shapeCasts_S1x1024x2048_S1024x2048 transposes_S1024x2048_S2048x1024_1_0
      ![1, 0] slices_S2x1024_S1x1024_1_0 ![1, 0, 0] slices_S2x1024x2048_S1x1024x2048_1_0_0 x mm W)

/-- Both halves of the channels of the input projection, channels before tokens. -/
def xz (mm : IVec S2x1024 32) (hs : FVec F S1x2048x1024 .f32) (W : FVec F S2x4096x1024 .f32) : FVec F S1x4096x2048 .f32 :=
  transpose S1x4096x2048 [0, 2, 1]
    (shapeCast S1x2048x4096 (mIn mm (shapeCast S2048x1024 hs shapeCasts_S1x2048x1024_S2048x1024) W) shapeCasts_S2048x4096_S1x2048x4096)
    transposes_S1x2048x4096_S1x4096x2048_0_2_1

/-- One tap of the convolution: the padded input from the tap's token on, times the tap's weight. -/
def tap (ow : Fin 2 → ℕ) (hw : S2048x4.Slices ow S2048x1) (ox : Fin 3 → ℕ) (hx : S1x2048x2051.Slices ox S1x2048x2048)
    (p : FVec F S1x2048x2051 .f32) (cw : FVec F S2048x4 .f32) : FVec F S1x2048x2048 .f32 :=
  mulf (broadcastInDim S1x2048x2048 ![0, 1, 2] bcast_S1x2048x1_S1x2048x2048_0_1_2
      (broadcastInDim S1x2048x1 ![1] bcast_S2048_S1x2048x1_1 (shapeCast S2048 (extractStridedSlice S2048x1 ow cw hw) shapeCasts_S2048x1_S2048)))
    (extractStridedSlice S1x2048x2048 ox p hx)

/-- The convolution over the tokens, with its bias. -/
def conv (p : FVec F S1x2048x2051 .f32) (cw : FVec F S2048x4 .f32) (cb : FVec F S2048 .f32) : FVec F S1x2048x2048 .f32 :=
  addf (broadcastInDim S1x2048x2048 ![0, 1, 2] bcast_S1x2048x1_S1x2048x2048_0_1_2 (broadcastInDim S1x2048x1 ![1] bcast_S2048_S1x2048x1_1 cb))
    (addf (addf (addf (addf (broadcastInDim S1x2048x2048 ![] bcast_S_S1x2048x2048 (constant S_ .f32 0x00000000#32))
      (tap ![0, 0] slices_S2048x4_S2048x1_0_0 ![0, 0, 0] slices_S1x2048x2051_S1x2048x2048_0_0_0 p cw))
      (tap ![0, 1] slices_S2048x4_S2048x1_0_1 ![0, 0, 1] slices_S1x2048x2051_S1x2048x2048_0_0_1 p cw))
      (tap ![0, 2] slices_S2048x4_S2048x1_0_2 ![0, 0, 2] slices_S1x2048x2051_S1x2048x2048_0_0_2 p cw))
      (tap ![0, 3] slices_S2048x4_S2048x1_0_3 ![0, 0, 3] slices_S1x2048x2051_S1x2048x2048_0_0_3 p cw))

/-- The activation of the convolution: `x` times the logistic of `x`. -/
def rsilu (x : FVec F S1x2048x2048 .f32) : FVec F S1x2048x2048 .f32 :=
  mulf x (Host.divf (broadcastInDim S1x2048x2048 ![] bcast_S_S1x2048x2048 (constant S_ .f32 0x3F800000#32))
    (addf (broadcastInDim S1x2048x2048 ![] bcast_S_S1x2048x2048 (constant S_ .f32 0x3F800000#32)) (Host.exp (Host.negf x))))

/-- The convolution's tokens as rows. -/
def rowsOf (u : FVec F S1x2048x2048 .f32) : FVec F S2048x2048 .f32 :=
  shapeCast S2048x2048 (transpose S1x2048x2048 [0, 2, 1] u transposes_S1x2048x2048_S1x2048x2048_0_2_1) shapeCasts_S1x2048x2048_S2048x2048

/-- The softplus of the step sizes, as it is written out. -/
def softplus (x : FVec F S2048x2048 .f32) : FVec F S2048x2048 .f32 :=
  select (cmpf .une (subf x (broadcastInDim S2048x2048 ![] bcast_S_S2048x2048 (constant S_ .f32 0x00000000#32)))
      (subf x (broadcastInDim S2048x2048 ![] bcast_S_S2048x2048 (constant S_ .f32 0x00000000#32))))
    (addf x (broadcastInDim S2048x2048 ![] bcast_S_S2048x2048 (constant S_ .f32 0x00000000#32)))
    (addf (maximumf x (broadcastInDim S2048x2048 ![] bcast_S_S2048x2048 (constant S_ .f32 0x00000000#32)))
      (Host.log1p (Host.exp (Host.negf (Host.absf (subf x (broadcastInDim S2048x2048 ![] bcast_S_S2048x2048 (constant S_ .f32 0x00000000#32))))))))

variable (V : Valuation τ sig (Elt F))

/-- The half of the input projection that is convolved. -/
theorem read_v48 : after hostOps0 V (Proc.devRef .tc main_v48)
    = extractStridedSlice S1x2048x2048 ![0, 0, 0] (xz (V (Proc.devRef .tc main_arg1)) (V (Proc.devRef .tc main_arg0)) (V (Proc.devRef .tc main_arg2))) slices_S1x4096x2048_S1x2048x2048_0_0_0 := by
  after_reads_simp
  rfl

/-- The half of the input projection that gates. -/
theorem read_v49 : after hostOps0 V (Proc.devRef .tc main_v49)
    = extractStridedSlice S1x2048x2048 ![0, 2048, 0] (xz (V (Proc.devRef .tc main_arg1)) (V (Proc.devRef .tc main_arg0)) (V (Proc.devRef .tc main_arg2))) slices_S1x4096x2048_S1x2048x2048_0_2048_0 := by
  after_reads_simp
  rfl

/-- The zero that pads. -/
theorem read_c7 : after hostOps0 V (Proc.devRef .tc main_c_7) = (constantI S_ 32 0#32 : IVec S_ 32) := by
  after_reads_simp

/-- The convolved half, padded by three tokens of zero. -/
theorem read_v50 : after hostOps0_1 V (Proc.devRef .tc main_v50)
    = pad S1x2048x2051 ![0, 0, 3] ![0, 0, 0] ![0, 0, 0] (V (Proc.devRef .tc main_v48) : FVec F S1x2048x2048 .f32) (sitofp .f32 (V (Proc.devRef .tc main_c_7) : IVec S_ 32)) pads_S1x2048x2048_S1x2048x2051_000_000_300 h_S_ := by
  after_reads_simp
  rfl

/-- The convolution, activated. -/
theorem read_v89 : after hostOps0_2 V (Proc.devRef .tc main_v89)
    = rsilu (conv (V (Proc.devRef .tc main_v50)) (V (Proc.devRef .tc main_arg3)) (V (Proc.devRef .tc main_arg4))) := by
  after_reads_simp
  rfl

/-- The step sizes. -/
theorem read_v195 : after hostOps0_3 V (Proc.devRef .tc main_v195) = softplus (V (Proc.devRef .tc main_v194)) := by
  after_reads_simp
  rfl

/-- The projection of the convolution's rows, of the stretch's inputs. -/
abbrev dblOf : FVec F S2048x96 .f32 :=
  mX (V (Proc.devRef .tc main_arg1)) (rowsOf (rsilu (conv (V (Proc.devRef .tc main_v50)) (V (Proc.devRef .tc main_arg3)) (V (Proc.devRef .tc main_arg4))))) (V (Proc.devRef .tc main_arg5))

/-- The state's input weights. -/
theorem read_v138 : after hostOps0_2 V (Proc.devRef .tc main_v138) = extractStridedSlice S2048x16 ![0, 64] (dblOf V) slices_S2048x96_S2048x16_0_64 := by
  after_reads_simp
  rfl

/-- The state's output weights. -/
theorem read_v139 : after hostOps0_2 V (Proc.devRef .tc main_v139) = extractStridedSlice S2048x16 ![0, 80] (dblOf V) slices_S2048x96_S2048x16_0_80 := by
  after_reads_simp
  rfl

/-- The step sizes before the softplus. -/
theorem read_v194 : after hostOps0_2 V (Proc.devRef .tc main_v194)
    = mDt (V (Proc.devRef .tc main_arg1)) (extractStridedSlice S2048x64 ![0, 0] (dblOf V) slices_S2048x96_S2048x64_0_0) (V (Proc.devRef .tc main_arg6)) (V (Proc.devRef .tc main_arg7)) := by
  after_reads_simp
  rfl

/-- The step sizes, as the loop scans them. -/
theorem read_dt : after hostOps0_4 V (Proc.devRef .tc main_v208_0)
    = transpose S2048x1x2048 [1, 0, 2] (shapeCast S1x2048x2048 (V (Proc.devRef .tc main_v195) : FVec F S2048x2048 .f32) shapeCasts_S2048x2048_S1x2048x2048) transposes_S1x2048x2048_S2048x1x2048_1_0_2 := by
  after_reads_simp
  rfl

/-- The input weights, as the loop scans them. -/
theorem read_B : after hostOps0_4 V (Proc.devRef .tc main_v208_1)
    = transpose S2048x1x16 [1, 0, 2] (shapeCast S1x2048x16 (V (Proc.devRef .tc main_v138) : FVec F S2048x16 .f32) shapeCasts_S2048x16_S1x2048x16) transposes_S1x2048x16_S2048x1x16_1_0_2 := by
  after_reads_simp
  rfl

/-- The output weights, as the loop scans them. -/
theorem read_C : after hostOps0_4 V (Proc.devRef .tc main_v208_2)
    = transpose S2048x1x16 [1, 0, 2] (shapeCast S1x2048x16 (V (Proc.devRef .tc main_v139) : FVec F S2048x16 .f32) shapeCasts_S2048x16_S1x2048x16) transposes_S1x2048x16_S2048x1x16_1_0_2 := by
  after_reads_simp
  rfl

/-- The activated convolution, as the loop scans it. -/
theorem read_u : after hostOps0_4 V (Proc.devRef .tc main_v208_3)
    = transpose S2048x1x2048 [1, 0, 2] (transpose S1x2048x2048 [0, 2, 1] (V (Proc.devRef .tc main_v89) : FVec F S1x2048x2048 .f32) transposes_S1x2048x2048_S1x2048x2048_0_2_1) transposes_S1x2048x2048_S2048x1x2048_1_0_2 := by
  after_reads_simp
  rfl

/-- The decay rates. -/
theorem read_A : after hostOps0_4 V (Proc.devRef .tc main_v208_4) = (Host.negf (Host.exp (V (Proc.devRef .tc main_arg8) : FVec F S2048x16 .f32)) : FVec F S2048x16 .f32) := by
  after_reads_simp
  rfl

/-- The loop's counter starts at zero. -/
theorem read_ctr : after hostOps0_4 V (Proc.devRef .tc main_v208_5) = (constantI S_ 32 0#32 : IVec S_ 32) := by
  after_reads_simp
  rfl

/-- The state starts at zero. -/
theorem read_h0 : after hostOps0_4 V (Proc.devRef .tc main_v208_6) = (broadcastInDim S1x2048x16 ![] bcast_S_S1x2048x16 (constant S_ .f32 0x00000000#32) : FVec F S1x2048x16 .f32) := by
  after_reads_simp
  rfl

/-- The written rows start at zero. -/
theorem read_y0 : after hostOps0_4 V (Proc.devRef .tc main_v208_7) = (broadcastInDim S2048x1x2048 ![] bcast_S_S2048x1x2048 (constant S_ .f32 0x00000000#32) : FVec F S2048x1x2048 .f32) := by
  after_reads_simp
  rfl

/-- The scanned rows, tokens before channels, with the skip term added and the gate applied. -/
def gated (y : FVec F S2048x1x2048 .f32) (u : FVec F S1x2048x2048 .f32) (D : FVec F S2048 .f32) (z : FVec F S1x2048x2048 .f32) : FVec F S1x2048x2048 .f32 :=
  mulf (addf (transpose S1x2048x2048 [1, 0, 2] y transposes_S2048x1x2048_S1x2048x2048_1_0_2)
      (mulf u (broadcastInDim S1x2048x2048 ![0, 1, 2] bcast_S1x1x2048_S1x2048x2048_0_1_2 (broadcastInDim S1x1x2048 ![2] bcast_S2048_S1x1x2048_2 D))))
    (rsilu (transpose S1x2048x2048 [0, 2, 1] z transposes_S1x2048x2048_S1x2048x2048_0_2_1))

/-- The convolution's tokens before its channels, as the skip term reads it. -/
theorem read_v199 : after hostOps0_4 V (Proc.devRef .tc main_v199)
    = transpose S1x2048x2048 [0, 2, 1] (V (Proc.devRef .tc main_v89) : FVec F S1x2048x2048 .f32) transposes_S1x2048x2048_S1x2048x2048_0_2_1 := by
  after_reads_simp

/-- The result. -/
theorem read_out : after hostOps0_5 V (Proc.devRef .tc main_v269)
    = shapeCast S1x2048x1024 (mOut (V (Proc.devRef .tc main_arg1)) (shapeCast S2048x2048 (gated (V (Proc.devRef .tc main_v208_7)) (V (Proc.devRef .tc main_v199)) (V (Proc.devRef .tc main_arg9)) (V (Proc.devRef .tc main_v49))) shapeCasts_S1x2048x2048_S2048x2048) (V (Proc.devRef .tc main_arg10))) shapeCasts_S2048x1024_S1x2048x1024 := by
  after_reads_simp
  rfl

end Cert.ReferenceIdeal.Own

end
-- ==== Proof.Loop.lean ====
/-
The reference's loop over the tokens, entry by entry: one trip reads its token's rows, steps the state and writes the
token's output row, so after `k` trips the state is the state before token `k` and the first `k` rows are written.
-/
module

public import proofs.«01_k».proof.Proof.Reads
public import proofs.«01_k».proof.Proof.Spec
public import Idealize.ShloMosaic.Lib.WordCmp
public import Idealize.ShloMosaic.Lib.Pointwise.Reduce
public import Idealize.ShloMosaic.Lib.Pointwise.ShapeOpsCore

@[expose] public section

set_option maxRecDepth 16384
set_option maxHeartbeats 4000000
set_option Elab.async false

noncomputable section

namespace Cert.ReferenceIdeal.Own

open Cert.ReferenceIdeal Cert.ReferenceIdeal.Gen Cert.ReferenceIdeal.Value
open Idealize.ShloMosaic hiding ix0 ix1 ix2 ix3 ix4 ix5
open Idealize.ShloMosaic.TcCoe
open Idealize.ShloMosaic.StableHlo
open Idealize.ShloMosaic.ValueIdx
open Cert.Own (silu)

/-- A counter word as a start index: the token it counts. -/
theorem start_val (c : IVec S_ 32) (k : ℕ) (hk : k < 2048) (hc : c = fun _ => BitVec.ofNat 32 k) (a : Fin 3) :
    (((![c, constantI S_ 32 0#32, constantI S_ 32 0#32] : Fin 3 → IVec S_ 32)) a (Shape.Idx.first h_S_)).toInt = ((![k, 0, 0] : Fin 3 → ℕ) a : Int) := by
  subst hc
  match a with
  | ⟨0, _⟩ => exact StableHlo.Predicate.toInt_ofNat_small k (by omega)
  | ⟨1, _⟩ => rfl
  | ⟨2, _⟩ => rfl

/-- One token's row of a scanned array. -/
theorem row_apply {α : Type} {C : ℕ} (x : (Sh3 2048 1 C).Idx → α) (c : IVec S_ 32) (k : Fin 2048) (hc : c = fun _ => BitVec.ofNat 32 k.val)
    (h : (Sh3 2048 1 C).Slices (fun _ => 0) (Sh3 1 1 C)) (hs : (Sh3 1 1 C).ShapeCasts (Sh2 1 C)) (d : Fin C) :
    shapeCast (Sh2 1 C) (Host.dynamicSlice (Sh3 1 1 C) x
      (fun a => (((![c, constantI S_ 32 0#32, constantI S_ 32 0#32] : Fin 3 → IVec S_ 32)) a (Shape.Idx.first h_S_)).toInt) h) hs (ix2 (0 : Fin 1) d)
    = x (ix3 k (0 : Fin 1) d) := by
  have hsl : (Sh3 2048 1 C).Slices ![k.val, 0, 0] (Sh3 1 1 C) := ⟨rfl, fun a => by
    have := k.isLt
    match a with
    | ⟨0, _⟩ => show k.val + 1 ≤ 2048; omega
    | ⟨1, _⟩ => show 0 + 1 ≤ 1; omega
    | ⟨2, _⟩ => show 0 + C ≤ C; omega⟩
  rw [WordCmp.dynamicSlice_eq_extract (Sh3 1 1 C) x _ h ![k.val, 0, 0] hsl (start_val c k.val k.isLt hc)]
  rw [shapeCast_apply _ hs (ix2 (0 : Fin 1) d) (ix3 (0 : Fin 1) (0 : Fin 1) d) (by
    rw [Shape.rowMajor_val_two, Shape.rowMajor_val_three]
    show (0 * 1 + 0) * C + d.val = 0 * C + d.val
    simp)]
  exact extractStridedSlice_apply _ x hsl _ (ix3 k (0 : Fin 1) d) (fun a => by
    match a with
    | ⟨0, _⟩ => rfl
    | ⟨1, _⟩ => rfl
    | ⟨2, _⟩ => show d.val = 0 + d.val; omega)

/-- One token's row written: the row itself, the other rows as they were. -/
theorem putRow_apply {α : Type} {C : ℕ} (x : (Sh3 2048 1 C).Idx → α) (r : (Sh3 1 1 C).Idx → α) (c : IVec S_ 32) (k : Fin 2048) (hc : c = fun _ => BitVec.ofNat 32 k.val)
    (h : (Sh3 2048 1 C).Slices (fun _ => 0) (Sh3 1 1 C)) (i : Fin 2048) (d : Fin C) :
    Host.dynamicUpdateSlice x r
      (fun a => (((![c, constantI S_ 32 0#32, constantI S_ 32 0#32] : Fin 3 → IVec S_ 32)) a (Shape.Idx.first h_S_)).toInt) h (ix3 i (0 : Fin 1) d)
    = if i = k then r (ix3 (0 : Fin 1) (0 : Fin 1) d) else x (ix3 i (0 : Fin 1) d) := by
  have hsl : (Sh3 2048 1 C).Slices ![k.val, 0, 0] (Sh3 1 1 C) := ⟨rfl, fun a => by
    have := k.isLt
    match a with
    | ⟨0, _⟩ => show k.val + 1 ≤ 2048; omega
    | ⟨1, _⟩ => show 0 + 1 ≤ 1; omega
    | ⟨2, _⟩ => show 0 + C ≤ C; omega⟩
  rw [WordCmp.dynamicUpdateSlice_eq_update x r _ h ![k.val, 0, 0] hsl (start_val c k.val k.isLt hc)]
  unfold updateSlice
  by_cases hik : i = k
  · subst hik
    rw [if_pos rfl, dif_pos (fun a => by
      match a with
      | ⟨0, _⟩ => exact ⟨Nat.le_refl i.val, Nat.lt_succ_self i.val⟩
      | ⟨1, _⟩ => exact ⟨Nat.le_refl 0, Nat.lt_succ_self 0⟩
      | ⟨2, _⟩ => exact ⟨Nat.zero_le d.val, by show d.val < 0 + C; have := d.isLt; omega⟩)]
    refine congrArg r (funext fun b => Fin.ext ?_)
    match b with
    | ⟨0, _⟩ => show i.val - i.val = 0; omega
    | ⟨1, _⟩ => rfl
    | ⟨2, _⟩ => show d.val - 0 = d.val; omega
  · rw [if_neg hik, dif_neg (fun q => by
      have q0 := q 0
      have q1 : k.val ≤ i.val := q0.1
      have q2 : i.val < k.val + 1 := q0.2
      exact hik (Fin.ext (by omega)))]

/-- What the loop starts from, by coordinates. -/
structure Entry (a : Cert.Own.Args) (V : Valuation τ sig (Elt Ideal)) : Prop where
  dt : ∀ (t : Fin 2048) (d : Fin 2048), (V (Proc.devRef .tc main_v208_0) : FVec Ideal S2048x1x2048 .f32) (ix3 t (0 : Fin 1) d) = a.dt t d
  B : ∀ (t : Fin 2048) (n : Fin 16), (V (Proc.devRef .tc main_v208_1) : FVec Ideal S2048x1x16 .f32) (ix3 t (0 : Fin 1) n) = a.B t n
  C : ∀ (t : Fin 2048) (n : Fin 16), (V (Proc.devRef .tc main_v208_2) : FVec Ideal S2048x1x16 .f32) (ix3 t (0 : Fin 1) n) = a.C t n
  u : ∀ (t : Fin 2048) (d : Fin 2048), (V (Proc.devRef .tc main_v208_3) : FVec Ideal S2048x1x2048 .f32) (ix3 t (0 : Fin 1) d) = a.u t d
  A : ∀ (d : Fin 2048) (n : Fin 16), (V (Proc.devRef .tc main_v208_4) : FVec Ideal S2048x16 .f32) (ix2 d n) = a.A d n

/-- Where the loop stands after `k` trips. -/
structure At (a : Cert.Own.Args) (k : ℕ) (V : Valuation τ sig (Elt Ideal)) : Prop extends Entry a V where
  ctr : (V (Proc.devRef .tc main_v208_5) : IVec S_ 32) = fun _ => BitVec.ofNat 32 k
  h : ∀ (d : Fin 2048) (n : Fin 16), (V (Proc.devRef .tc main_v208_6) : FVec Ideal S1x2048x16 .f32) (ix3 (0 : Fin 1) d n) = a.h k d n
  y : ∀ (t : Fin 2048) (d : Fin 2048), t.val < k → (V (Proc.devRef .tc main_v208_7) : FVec Ideal S2048x1x2048 .f32) (ix3 t (0 : Fin 1) d) = a.ys t d

section Layouts
variable {α : Type}

/-- A channel vector, the same at every state entry. -/
theorem bcast_chan (x : S1x2048.Idx → α) (d : Fin 2048) (n : Fin 16) :
    broadcastInDim S1x2048x16 ![0, 1, 2] bcast_S1x2048x1_S1x2048x16_0_1_2 (broadcastInDim S1x2048x1 ![0, 1] bcast_S1x2048_S1x2048x1_0_1 x) (ix3 (0 : Fin 1) d n)
      = x (ix2 (0 : Fin 1) d) := by
  rw [broadcastInDim_apply _ _ _ _ (ix3 (0 : Fin 1) d (0 : Fin 1)) (fun b => by match b with | ⟨0, _⟩ => rfl | ⟨1, _⟩ => rfl | ⟨2, _⟩ => rfl)]
  exact broadcastInDim_apply _ _ _ _ (ix2 (0 : Fin 1) d) (fun b => by match b with | ⟨0, _⟩ => rfl | ⟨1, _⟩ => rfl)

/-- A state vector, the same at every channel. -/
theorem bcast_state (x : S1x16.Idx → α) (d : Fin 2048) (n : Fin 16) :
    broadcastInDim S1x2048x16 ![0, 1, 2] bcast_S1x1x16_S1x2048x16_0_1_2 (broadcastInDim S1x1x16 ![0, 2] bcast_S1x16_S1x1x16_0_2 x) (ix3 (0 : Fin 1) d n)
      = x (ix2 (0 : Fin 1) n) := by
  rw [broadcastInDim_apply _ _ _ _ (ix3 (0 : Fin 1) (0 : Fin 1) n) (fun b => by match b with | ⟨0, _⟩ => rfl | ⟨1, _⟩ => rfl | ⟨2, _⟩ => rfl)]
  exact broadcastInDim_apply _ _ _ _ (ix2 (0 : Fin 1) n) (fun b => by match b with | ⟨0, _⟩ => rfl | ⟨1, _⟩ => rfl)

/-- An array of channels and state entries, under a first axis of one. -/
theorem bcast_rates (x : S2048x16.Idx → α) (d : Fin 2048) (n : Fin 16) :
    broadcastInDim S1x2048x16 ![1, 2] bcast_S2048x16_S1x2048x16_1_2 x (ix3 (0 : Fin 1) d n) = x (ix2 d n) :=
  broadcastInDim_apply _ _ _ _ (ix2 d n) (fun b => by match b with | ⟨0, _⟩ => rfl | ⟨1, _⟩ => rfl)

/-- A channel vector, under a first axis of one. -/
theorem bcast_vec (x : S2048.Idx → α) (d : Fin 2048) :
    broadcastInDim S1x2048 ![1] bcast_S2048_S1x2048_1 x (ix2 (0 : Fin 1) d) = x (ix1 d) :=
  broadcastInDim_apply _ _ _ _ (ix1 d) (fun b => by obtain rfl : b = 0 := Subsingleton.elim _ _; rfl)

/-- A token's row, under another first axis of one. -/
theorem bcast_row (x : S1x2048.Idx → α) (d : Fin 2048) :
    broadcastInDim S1x1x2048 ![1, 2] bcast_S1x2048_S1x1x2048_1_2 x (ix3 (0 : Fin 1) (0 : Fin 1) d) = x (ix2 (0 : Fin 1) d) :=
  broadcastInDim_apply _ _ _ _ (ix2 (0 : Fin 1) d) (fun b => by match b with | ⟨0, _⟩ => rfl | ⟨1, _⟩ => rfl)

end Layouts

/-- One step of the state, at an entry. -/
theorem cell_apply {s : Shape} (h p q b w : FVec Ideal s .f32) (i : s.Idx) :
    addf (mulf h (Host.exp (mulf p q))) (mulf (mulf p b) w) i = h i * Ideal.exp (p i * q i) + p i * b i * w i := rfl

/-- The broadcast constant one. -/
theorem one_apply {T : Shape} (h : S_.BroadcastsInDim T ![]) (j : T.Idx) :
    (broadcastInDim T ![] h (constant S_ .f32 0x3F800000#32 : FVec Ideal S_ .f32)) j = 1 := by
  rw [broadcastInDim_scalar_apply]; exact Ideal.ofBits_one_f32

/-- The broadcast constant zero. -/
theorem zero_apply {T : Shape} (h : S_.BroadcastsInDim T ![]) (j : T.Idx) :
    (broadcastInDim T ![] h (constant S_ .f32 0x00000000#32 : FVec Ideal S_ .f32)) j = 0 := by
  rw [broadcastInDim_scalar_apply]; exact Ideal.ofBits_zero_f32

section Trip
variable {a : Cert.Own.Args} {V : Valuation τ sig (Elt Ideal)} {k : Fin 2048} (I : At a k.val V)
include I

/-- A trip's step sizes are its token's. -/
theorem trip_dt (d : Fin 2048) : (res_main_while0b_v270 V : FVec Ideal S1x2048 .f32) (ix2 (0 : Fin 1) d) = a.dt k d :=
  (row_apply _ _ k I.ctr _ _ d).trans (I.dt k d)

/-- A token is the token of its number. -/
theorem ofNat_self : Fin.ofNat 2048 k.val = k := Fin.ext (Nat.mod_eq_of_lt k.isLt)

/-- A trip leaves the state after its token. -/
theorem trip_h (d : Fin 2048) (n : Fin 16) : (res_main_while0b_v288 V : FVec Ideal S1x2048x16 .f32) (ix3 (0 : Fin 1) d n) = a.h (k.val + 1) d n := by
  unfold res_main_while0b_v288
  refine (cell_apply _ _ _ _ _ _).trans ?_
  rw [bcast_chan, bcast_chan, bcast_state, bcast_rates, trip_dt I, I.h, I.A]
  erw [row_apply _ _ k I.ctr _ _ n, row_apply _ _ k I.ctr _ _ d]
  rw [I.B, I.u]
  show _ = a.h k.val d n * Ideal.exp (a.dt (Fin.ofNat 2048 k.val) d * a.A d n) + a.dt (Fin.ofNat 2048 k.val) d * a.B (Fin.ofNat 2048 k.val) n * a.u (Fin.ofNat 2048 k.val) d
  rw [ofNat_self I]

/-- A trip writes its token's row and leaves the others. -/
theorem trip_y (t : Fin 2048) (d : Fin 2048) : (step_main_v208_7 V : FVec Ideal S2048x1x2048 .f32) (ix3 t (0 : Fin 1) d)
    = if t = k then a.ys k d else (V (Proc.devRef .tc main_v208_7) : FVec Ideal S2048x1x2048 .f32) (ix3 t (0 : Fin 1) d) := by
  unfold step_main_v208_7
  refine (putRow_apply _ _ _ k I.ctr _ t d).trans (if_congr Iff.rfl ?_ rfl)
  refine (bcast_row _ d).trans ?_
  rw [hostReduceAdd_apply, Ideal.hostReduceAdd_r3_a2]
  show Ideal.ofBits .f32 0x00000000#32 + _ = _
  rw [Ideal.ofBits_zero_f32, zero_add]
  refine Finset.sum_congr rfl fun n _ => ?_
  exact congrArg₂ (· * ·) (trip_h I d n) ((bcast_state _ d n).trans ((row_apply _ _ k I.ctr _ _ n).trans (I.C k n)))

/-- One trip. -/
theorem At.step : At a (k.val + 1) (STEP V) where
  dt := by rw [STEP_main_v208_0]; exact I.dt
  B := by rw [STEP_main_v208_1]; exact I.B
  C := by rw [STEP_main_v208_2]; exact I.C
  u := by rw [STEP_main_v208_3]; exact I.u
  A := by rw [STEP_main_v208_4]; exact I.A
  ctr := by
    rw [STEP_main_v208_5]; unfold step_main_v208_5
    funext i
    have hc : (V (Proc.devRef .tc main_v208_5) : IVec S_ 32) i = BitVec.ofNat 32 k.val := congrFun I.ctr i
    refine (congrArg (fun q : BitVec 32 => q + 1#32) hc).trans ?_
    exact (BitVec.ofNat_add k.val 1).symm
  h := by
    rw [STEP_main_v208_6]
    exact trip_h I
  y := by
    rw [STEP_main_v208_7]
    intro t d ht
    rw [trip_y I]
    split
    · next e => rw [e]
    · next e => exact I.y t d (by have : t.val ≠ k.val := fun q => e (Fin.ext q); omega)

end Trip

/-- All the trips up to `k`. -/
theorem At.iter {a : Cert.Own.Args} {V : Valuation τ sig (Elt Ideal)} (I : At a 0 V) (k : ℕ) (hk : k ≤ 2048) : At a k (STEP^[k] V) := by
  induction k with
  | zero => exact I
  | succ k ih =>
    rw [Function.iterate_succ_apply']
    exact (ih (by omega)).step (k := ⟨k, by omega⟩)

end Cert.ReferenceIdeal.Own

end
-- ==== Proof.RefValue.lean ====
/-
The reference's result, entry by entry: each stage before the loop read at a coordinate, the loop's end, and the output
projection give the block's mathematics, the index table counting the tokens in order.
-/
module

public import proofs.«01_k».proof.Proof.Loop
public import Idealize.ShloMosaic.Lib.KernelVsHost

@[expose] public section

set_option maxRecDepth 16384
set_option maxHeartbeats 4000000
set_option Elab.async false

noncomputable section

namespace Cert.ReferenceIdeal.Own

open Cert.ReferenceIdeal Cert.ReferenceIdeal.Gen Cert.ReferenceIdeal.Value
open Idealize.ShloMosaic hiding ix0 ix1 ix2 ix3 ix4 ix5
open Idealize.ShloMosaic.TcCoe
open Idealize.ShloMosaic.StableHlo
open Idealize.ShloMosaic.ValueIdx
open Cert.Own (silu half sp Args)

section Stages
variable {a : Args} {mm : IVec S2x1024 32} (hm : InOrder mm)

section Maps

/-- A token of the first half. -/
theorem half_lo {t : Fin 2048} {k : Fin 1024} (h : t.val = k.val) : half t = 0 := Fin.ext (by
  show t.val / 1024 = 0; have := k.isLt; omega)
/-- A token of the second half. -/
theorem half_hi {t : Fin 2048} {k : Fin 1024} (h : t.val = 1024 + k.val) : half t = 1 := Fin.ext (by
  show t.val / 1024 = 1; have := k.isLt; omega)

/-- A first-half token's number. -/
theorem lo_val {t : Fin 2048} {k : Fin 1024} (h : t.val = k.val) : t.val = (0 : Fin 2).val * 1024 + k.val := by rw [h]; simp
/-- A second-half token's number. -/
theorem hi_val {t : Fin 2048} {k : Fin 1024} (h : t.val = 1024 + k.val) : t.val = (1 : Fin 2).val * 1024 + k.val := by rw [h]; simp

include hm

/-- The input projection at token `t`, row `e`. -/
theorem mIn_apply (x : FVec Ideal S2048x1024 .f32) (W : FVec Ideal S2x4096x1024 .f32) (t : Fin 2048) (e : Fin 4096) :
    mIn mm x W (ix2 t e) = ∑ c : Fin 1024, x (ix2 t c) * W (ix3 (half t) e c) := by
  unfold mIn
  refine scatterHalves_apply _ rfl rfl rfl rfl _ mm hm _ _ (fun t => ∑ c : Fin 1024, x (ix2 t c) * W (ix3 (half t) e c)) e (fun k t h => ?_) (fun k t h => ?_) t
  · rw [half_lo h]
    refine halfDot_apply (K := 1024) (C := 4096) _ ?_ ?_ ?_ ?_ ?_ _ ?_ _ _ 0 _ ?_ ?_ _ _ _ ?_ ?_ ?_ x mm hm W k e t (lo_val h) <;> rfl
  · rw [half_hi h]
    refine halfDot_apply (K := 1024) (C := 4096) _ ?_ ?_ ?_ ?_ ?_ _ ?_ _ _ 1 _ ?_ ?_ _ _ _ ?_ ?_ ?_ x mm hm W k e t (hi_val h) <;> rfl

/-- The projection to step size and state weights at token `t`, row `e`. -/
theorem mX_apply (x : FVec Ideal S2048x2048 .f32) (W : FVec Ideal S2x96x2048 .f32) (t : Fin 2048) (e : Fin 96) :
    mX mm x W (ix2 t e) = ∑ c : Fin 2048, x (ix2 t c) * W (ix3 (half t) e c) := by
  unfold mX
  refine scatterHalves_apply _ rfl rfl rfl rfl _ mm hm _ _ (fun t => ∑ c : Fin 2048, x (ix2 t c) * W (ix3 (half t) e c)) e (fun k t h => ?_) (fun k t h => ?_) t
  · rw [half_lo h]
    refine halfDot_apply (K := 2048) (C := 96) _ ?_ ?_ ?_ ?_ ?_ _ ?_ _ _ 0 _ ?_ ?_ _ _ _ ?_ ?_ ?_ x mm hm W k e t (lo_val h) <;> rfl
  · rw [half_hi h]
    refine halfDot_apply (K := 2048) (C := 96) _ ?_ ?_ ?_ ?_ ?_ _ ?_ _ _ 1 _ ?_ ?_ _ _ _ ?_ ?_ ?_ x mm hm W k e t (hi_val h) <;> rfl

/-- The output projection at token `t`, row `e`. -/
theorem mOut_apply (x : FVec Ideal S2048x2048 .f32) (W : FVec Ideal S2x1024x2048 .f32) (t : Fin 2048) (e : Fin 1024) :
    mOut mm x W (ix2 t e) = ∑ c : Fin 2048, x (ix2 t c) * W (ix3 (half t) e c) := by
  unfold mOut
  refine scatterHalves_apply _ rfl rfl rfl rfl _ mm hm _ _ (fun t => ∑ c : Fin 2048, x (ix2 t c) * W (ix3 (half t) e c)) e (fun k t h => ?_) (fun k t h => ?_) t
  · rw [half_lo h]
    refine halfDot_apply (K := 2048) (C := 1024) _ ?_ ?_ ?_ ?_ ?_ _ ?_ _ _ 0 _ ?_ ?_ _ _ _ ?_ ?_ ?_ x mm hm W k e t (lo_val h) <;> rfl
  · rw [half_hi h]
    refine halfDot_apply (K := 2048) (C := 1024) _ ?_ ?_ ?_ ?_ ?_ _ ?_ _ _ 1 _ ?_ ?_ _ _ _ ?_ ?_ ?_ x mm hm W k e t (hi_val h) <;> rfl

omit hm in
/-- A half's bias row. -/
theorem biasRow_apply (i : Fin 2) (ob : Fin 2 → ℕ) (h0 : ob 0 = i.val) (h1 : ob 1 = 0) (hb : S2x2048.Slices ob S1x2048) (b : FVec Ideal S2x2048 .f32) (k : Fin 1024) (e : Fin 2048) :
    biasRow ob hb b (ix2 k e) = b (ix2 i e) := by
  unfold biasRow
  rw [broadcastInDim_apply _ _ _ _ (ix2 (0 : Fin 1) e) (fun b => by match b with | ⟨0, _⟩ => rfl | ⟨1, _⟩ => rfl), bcast_vec,
    shapeCast_apply _ _ (ix1 e) (ix2 (0 : Fin 1) e) (by rw [Shape.rowMajor_val_one, Shape.rowMajor_val_two]; simp [ix1, ix2])]
  exact extractStridedSlice_apply ob b hb (ix2 (0 : Fin 1) e) (ix2 i e) (fun c => by
    match c with
    | ⟨0, _⟩ => show i.val = ob 0 + 0; omega
    | ⟨1, _⟩ => show e.val = ob 1 + e.val; omega)

/-- The step sizes' projection at token `t`, channel `e`. -/
theorem mDt_apply (x : FVec Ideal S2048x64 .f32) (W : FVec Ideal S2x2048x64 .f32) (b : FVec Ideal S2x2048 .f32) (t : Fin 2048) (e : Fin 2048) :
    mDt mm x W b (ix2 t e) = (∑ c : Fin 64, x (ix2 t c) * W (ix3 (half t) e c)) + b (ix2 (half t) e) := by
  unfold mDt
  refine scatterHalves_apply _ rfl rfl rfl rfl _ mm hm _ _ (fun t => (∑ c : Fin 64, x (ix2 t c) * W (ix3 (half t) e c)) + b (ix2 (half t) e)) e (fun k t h => ?_) (fun k t h => ?_) t
  · rw [half_lo h]
    refine congrArg₂ (· + ·) ?_ (biasRow_apply 0 ![0, 0] rfl rfl _ b k e)
    refine halfDot_apply (K := 64) (C := 2048) _ ?_ ?_ ?_ ?_ ?_ _ ?_ _ _ 0 _ ?_ ?_ _ _ _ ?_ ?_ ?_ x mm hm W k e t (lo_val h) <;> rfl
  · rw [half_hi h]
    refine congrArg₂ (· + ·) ?_ (biasRow_apply 1 ![1, 0] rfl rfl _ b k e)
    refine halfDot_apply (K := 64) (C := 2048) _ ?_ ?_ ?_ ?_ ?_ _ ?_ _ _ 1 _ ?_ ?_ _ _ _ ?_ ?_ ?_ x mm hm W k e t (hi_val h) <;> rfl

end Maps

section Layouts
variable {α : Type}

/-- Rows as the one slab of an array. -/
theorem rows_to_slab {R C : ℕ} (h : (Sh2 R C).ShapeCasts (Sh3 1 R C)) (x : (Sh2 R C).Idx → α) (t : Fin R) (d : Fin C) :
    shapeCast (Sh3 1 R C) x h (ix3 (0 : Fin 1) t d) = x (ix2 t d) :=
  shapeCast_apply _ h _ (ix2 t d) (by
    rw [Shape.rowMajor_val_two, Shape.rowMajor_val_three]
    show t.val * C + d.val = (0 * R + t.val) * C + d.val
    rw [Nat.zero_mul, Nat.zero_add])

/-- The one slab of an array as rows. -/
theorem slab_to_rows {R C : ℕ} (h : (Sh3 1 R C).ShapeCasts (Sh2 R C)) (x : (Sh3 1 R C).Idx → α) (t : Fin R) (d : Fin C) :
    shapeCast (Sh2 R C) x h (ix2 t d) = x (ix3 (0 : Fin 1) t d) :=
  shapeCast_apply _ h _ (ix3 (0 : Fin 1) t d) (by
    rw [Shape.rowMajor_val_two, Shape.rowMajor_val_three]
    show (0 * R + t.val) * C + d.val = t.val * C + d.val
    rw [Nat.zero_mul, Nat.zero_add])

/-- The last two axes exchanged. -/
theorem tr_021 {A B C : ℕ} (h : (Sh3 A B C).Transposes [0, 2, 1] (Sh3 A C B)) (x : (Sh3 A B C).Idx → α) (i : Fin A) (j : Fin B) (k : Fin C) :
    transpose (Sh3 A C B) [0, 2, 1] x h (ix3 i k j) = x (ix3 i j k) :=
  transpose_apply _ _ h _ (ix3 i j k) (fun b => by match b with | ⟨0, _⟩ => rfl | ⟨1, _⟩ => rfl | ⟨2, _⟩ => rfl)

/-- The first two axes exchanged. -/
theorem tr_102 {A B C : ℕ} (h : (Sh3 A B C).Transposes [1, 0, 2] (Sh3 B A C)) (x : (Sh3 A B C).Idx → α) (i : Fin A) (j : Fin B) (k : Fin C) :
    transpose (Sh3 B A C) [1, 0, 2] x h (ix3 j i k) = x (ix3 i j k) :=
  transpose_apply _ _ h _ (ix3 i j k) (fun b => by match b with | ⟨0, _⟩ => rfl | ⟨1, _⟩ => rfl | ⟨2, _⟩ => rfl)

/-- Some columns of an array. -/
theorem cols_apply {R C D o : ℕ} (h : (Sh2 R C).Slices ![0, o] (Sh2 R D)) (x : (Sh2 R C).Idx → α) (t : Fin R) (d : Fin D) (e : Fin C) (he : e.val = o + d.val) :
    extractStridedSlice (Sh2 R D) ![0, o] x h (ix2 t d) = x (ix2 t e) :=
  extractStridedSlice_apply _ x h _ (ix2 t e) (fun b => by
    match b with
    | ⟨0, _⟩ => show t.val = 0 + t.val; omega
    | ⟨1, _⟩ => exact he)

/-- Some channels of the one slab of an array. -/
theorem chans_apply {R C D o : ℕ} (h : (Sh3 1 C R).Slices ![0, o, 0] (Sh3 1 D R)) (x : (Sh3 1 C R).Idx → α) (t : Fin R) (d : Fin D) (e : Fin C) (he : e.val = o + d.val) :
    extractStridedSlice (Sh3 1 D R) ![0, o, 0] x h (ix3 (0 : Fin 1) d t) = x (ix3 (0 : Fin 1) e t) :=
  extractStridedSlice_apply _ x h _ (ix3 (0 : Fin 1) e t) (fun b => by
    match b with
    | ⟨0, _⟩ => rfl
    | ⟨1, _⟩ => exact he
    | ⟨2, _⟩ => show t.val = 0 + t.val; omega)

end Layouts

/-- The padded input: zero on the three tokens put in front. -/
theorem pad_apply (x : FVec Ideal S1x2048x2048 .f32) (hx : ∀ t d, x (ix3 (0 : Fin 1) d t) = a.x t d)
    (v : IVec S_ 32) (hv : v = constantI S_ 32 0#32) (s : ℕ) (hs : s ≤ 3) (t d : Fin 2048) (q : Fin 2051) (hq : q.val = t.val + (3 - s)) :
    pad S1x2048x2051 ![0, 0, 3] ![0, 0, 0] ![0, 0, 0] x (sitofp .f32 v : FVec Ideal S_ .f32) pads_S1x2048x2048_S1x2048x2051_000_000_300 h_S_ (ix3 (0 : Fin 1) d q) = a.back s t d := by
  subst hv
  have ht := t.isLt
  unfold Args.back
  by_cases h : s ≤ t.val
  · rw [dif_pos h, ← hx]
    exact pad_apply_of_inside _ _ _ _ _ _ _ _ (ix3 (0 : Fin 1) d ⟨t.val - s, by omega⟩) (fun b => by
      match b with
      | ⟨0, _⟩ => rfl
      | ⟨1, _⟩ => show d.val = 0 + d.val * (0 + 1); omega
      | ⟨2, _⟩ => show q.val = 3 + (t.val - s) * (0 + 1); omega)
  · rw [dif_neg h]
    refine (pad_apply_of_not_inside _ _ _ _ _ _ _ _ (2 : Fin 3) (fun q2 => h ?_)).trans ?_
    · have q3 : 3 ≤ q.val := q2.1
      omega
    · show ((BitVec.toInt 0#32 : ℝ) : EReal) = 0
      simp

/-- One tap at a token and channel. -/
theorem tap_apply (p : FVec Ideal S1x2048x2051 .f32) (cw : FVec Ideal S2048x4 .f32) (j : Fin 4) (ow : Fin 2 → ℕ) (w0 : ow 0 = 0) (w1 : ow 1 = j.val)
    (hw : S2048x4.Slices ow S2048x1) (ox : Fin 3 → ℕ) (x0 : ox 0 = 0) (x1 : ox 1 = 0) (x2 : ox 2 = j.val) (hx : S1x2048x2051.Slices ox S1x2048x2048)
    (t d : Fin 2048) (q : Fin 2051) (hq : q.val = t.val + j.val) :
    tap ow hw ox hx p cw (ix3 (0 : Fin 1) d t) = cw (ix2 d j) * p (ix3 (0 : Fin 1) d q) := by
  unfold tap
  rw [mulf_apply]
  rw [broadcastInDim_apply _ _ _ _ (ix3 (0 : Fin 1) d (0 : Fin 1)) (fun b => by match b with | ⟨0, _⟩ => rfl | ⟨1, _⟩ => rfl | ⟨2, _⟩ => rfl),
    broadcastInDim_apply _ _ _ _ (ix1 d) (fun b => by obtain rfl : b = 0 := Subsingleton.elim _ _; rfl),
    shapeCast_apply _ _ (ix1 d) (ix2 d (0 : Fin 1)) (by rw [Shape.rowMajor_val_one, Shape.rowMajor_val_two]; simp [ix1, ix2]),
    extractStridedSlice_apply ow cw hw _ (ix2 d j) (fun b => by
      match b with
      | ⟨0, _⟩ => show d.val = ow 0 + d.val; omega
      | ⟨1, _⟩ => show j.val = ow 1 + 0; omega),
    extractStridedSlice_apply ox p hx _ (ix3 (0 : Fin 1) d q) (fun b => by
      match b with
      | ⟨0, _⟩ => show 0 = ox 0 + 0; omega
      | ⟨1, _⟩ => show d.val = ox 1 + d.val; omega
      | ⟨2, _⟩ => show q.val = ox 2 + t.val; omega)]

/-- The convolution at a token and channel. -/
theorem conv_apply (p : FVec Ideal S1x2048x2051 .f32) (cw : FVec Ideal S2048x4 .f32) (cb : FVec Ideal S2048 .f32)
    (hp : ∀ s ≤ 3, ∀ t d : Fin 2048, ∀ q : Fin 2051, q.val = t.val + (3 - s) → p (ix3 (0 : Fin 1) d q) = a.back s t d)
    (hw : ∀ d j, cw (ix2 d j) = a.cw d j) (hb : ∀ d, cb (ix1 d) = a.cb d) (t d : Fin 2048) :
    conv p cw cb (ix3 (0 : Fin 1) d t) = a.conv t d := by
  have ht := t.isLt
  unfold conv Args.conv
  simp only [addf_apply]
  rw [broadcastInDim_apply _ _ _ _ (ix3 (0 : Fin 1) d (0 : Fin 1)) (fun b => by match b with | ⟨0, _⟩ => rfl | ⟨1, _⟩ => rfl | ⟨2, _⟩ => rfl),
    broadcastInDim_apply _ _ _ _ (ix1 d) (fun b => by obtain rfl : b = 0 := Subsingleton.elim _ _; rfl), zero_apply, zero_add, hb,
    tap_apply p cw 0 _ rfl rfl _ _ rfl rfl rfl _ t d ⟨t.val, by omega⟩ rfl,
    tap_apply p cw 1 _ rfl rfl _ _ rfl rfl rfl _ t d ⟨t.val + 1, by omega⟩ rfl,
    tap_apply p cw 2 _ rfl rfl _ _ rfl rfl rfl _ t d ⟨t.val + 2, by omega⟩ rfl,
    tap_apply p cw 3 _ rfl rfl _ _ rfl rfl rfl _ t d ⟨t.val + 3, by omega⟩ rfl,
    hw, hw, hw, hw, hp 3 (by omega) t d _ rfl, hp 2 (by omega) t d _ rfl, hp 1 (by omega) t d _ rfl, hp 0 (by omega) t d _ rfl]

/-- The activation of the convolution, at an entry. -/
theorem rsilu_apply (x : FVec Ideal S1x2048x2048 .f32) (i : S1x2048x2048.Idx) : rsilu x i = silu (x i) := by
  unfold rsilu
  show x i * Ideal.div (broadcastInDim S1x2048x2048 ![] bcast_S_S1x2048x2048 (constant S_ .f32 0x3F800000#32 : FVec Ideal S_ .f32) i)
    (broadcastInDim S1x2048x2048 ![] bcast_S_S1x2048x2048 (constant S_ .f32 0x3F800000#32 : FVec Ideal S_ .f32) i + Ideal.exp (-(x i))) = _
  rw [one_apply]; rfl

/-- Skip and gate at a token and channel. -/
theorem gated_apply (y : FVec Ideal S2048x1x2048 .f32) (u : FVec Ideal S1x2048x2048 .f32) (D : FVec Ideal S2048 .f32) (z : FVec Ideal S1x2048x2048 .f32) (t d : Fin 2048) :
    gated y u D z (ix3 (0 : Fin 1) t d) = (y (ix3 t (0 : Fin 1) d) + u (ix3 (0 : Fin 1) t d) * D (ix1 d)) * silu (z (ix3 (0 : Fin 1) d t)) := by
  unfold gated
  rw [mulf_apply, addf_apply, mulf_apply, rsilu_apply]
  refine congrArg₂ (fun p q : EReal => p * silu q) (congrArg₂ (fun p q : EReal => p + q) (tr_102 _ _ t (0 : Fin 1) d) (congrArg (fun q : EReal => u (ix3 (0 : Fin 1) t d) * q) ?_))
    (tr_021 _ _ (0 : Fin 1) d t)
  rw [broadcastInDim_apply _ _ _ _ (ix3 (0 : Fin 1) (0 : Fin 1) d) (fun b => by match b with | ⟨0, _⟩ => rfl | ⟨1, _⟩ => rfl | ⟨2, _⟩ => rfl)]
  exact broadcastInDim_apply _ _ _ _ (ix1 d) (fun b => by obtain rfl : b = 0 := Subsingleton.elim _ _; rfl)

/-- The softplus of the step sizes, at an entry. -/
theorem softplus_apply (x : FVec Ideal S2048x2048 .f32) (i : S2048x2048.Idx) : softplus x i = sp (x i) := by
  unfold softplus sp
  have h0 := zero_apply bcast_S_S2048x2048 i
  generalize (broadcastInDim S2048x2048 ![] bcast_S_S2048x2048 (constant S_ .f32 0x00000000#32 : FVec Ideal S_ .f32)) = o at h0 ⊢
  show Scalar.select (Ideal.cmp .une (x i - o i) (x i - o i)) (x i + o i) (max (x i) (o i) + Ideal.log1p (Ideal.exp (-(max (x i - o i) (-(x i - o i)))))) = _
  rw [h0, sub_zero]
  have : Ideal.cmp .une (x i) (x i) = 0#1 := by simp [Ideal.cmp]
  rw [this]
  rfl

end Stages

end Cert.ReferenceIdeal.Own

end
-- ==== Proof.RefEntry.lean ====
/-
The reference's run: the loop's entry, stretch by stretch, and from it the result, as functions of the arguments.
-/
module

public import proofs.«01_k».proof.Proof.RefValue
public import proofs.«01_k».proof.Proof.RefRun
public import Idealize.ShloMosaic.Lib.KernelVsHost

@[expose] public section

set_option maxRecDepth 16384
set_option maxHeartbeats 4000000
set_option Elab.async false

noncomputable section

namespace Cert.ReferenceIdeal.Own

open Cert.ReferenceIdeal Cert.ReferenceIdeal.Gen Cert.ReferenceIdeal.Value
open Idealize.ShloMosaic hiding ix0 ix1 ix2 ix3 ix4 ix5
open Idealize.ShloMosaic.TcCoe
open Idealize.ShloMosaic.StableHlo
open Idealize.ShloMosaic.ValueIdx
open Cert.Own (silu half sp Args)

/-! ## The loop's entry -/

section Run
variable (m : (ℓ : Loc nD τ sig) → Buf (Elt Ideal) ℓ) (c : Dev nD)

/-- The reference's arguments, by coordinates. -/
def args : Args := Args.of (m ((c.tc : Thread nD τ).loc main_arg0) : FVec Ideal S1x2048x1024 .f32) (m ((c.tc : Thread nD τ).loc main_arg2) : FVec Ideal S2x4096x1024 .f32)
  (m ((c.tc : Thread nD τ).loc main_arg3) : FVec Ideal S2048x4 .f32) (m ((c.tc : Thread nD τ).loc main_arg4) : FVec Ideal S2048 .f32)
  (m ((c.tc : Thread nD τ).loc main_arg5) : FVec Ideal S2x96x2048 .f32) (m ((c.tc : Thread nD τ).loc main_arg6) : FVec Ideal S2x2048x64 .f32)
  (m ((c.tc : Thread nD τ).loc main_arg7) : FVec Ideal S2x2048 .f32) (m ((c.tc : Thread nD τ).loc main_arg8) : FVec Ideal S2048x16 .f32)
  (m ((c.tc : Thread nD τ).loc main_arg9) : FVec Ideal S2048 .f32) (m ((c.tc : Thread nD τ).loc main_arg10) : FVec Ideal S2x1024x2048 .f32)

/-- The buffers after each stretch before the loop. -/
def R1 : Valuation τ sig (Elt Ideal) := after hostOps0 (launchContents m c)
def R2 : Valuation τ sig (Elt Ideal) := after hostOps0_1 (R1 m c)
def R3 : Valuation τ sig (Elt Ideal) := after hostOps0_2 (R2 m c)
def R4 : Valuation τ sig (Elt Ideal) := after hostOps0_3 (R3 m c)

/-- The loop's entry, stretch by stretch. -/
theorem entry_eq : entryContents preI m c = after hostOps0_4 (R4 m c) := by
  simp only [entryContents, afterL_cons, afterL_nil]; rfl

/-- What the first stretch does not write. -/
theorem R1_keep (r : Ref sig .tc) (h : r ∉ hostOps0_W) : R1 m c (Proc.devRef .tc r) = m ((c.tc : Thread nD τ).loc r) :=
  after_of_writes_sub hostOps0 _ hostOps0_writes h
/-- What the second stretch does not write. -/
theorem R2_keep (r : Ref sig .tc) (h : r ∉ hostOps0_1_W) : R2 m c (Proc.devRef .tc r) = R1 m c (Proc.devRef .tc r) :=
  after_of_writes_sub hostOps0_1 _ hostOps0_1_writes h
/-- What the third stretch does not write. -/
theorem R3_keep (r : Ref sig .tc) (h : r ∉ hostOps0_2_W) : R3 m c (Proc.devRef .tc r) = R2 m c (Proc.devRef .tc r) :=
  after_of_writes_sub hostOps0_2 _ hostOps0_2_writes h
/-- What the fourth stretch does not write. -/
theorem R4_keep (r : Ref sig .tc) (h : r ∉ hostOps0_3_W) : R4 m c (Proc.devRef .tc r) = R3 m c (Proc.devRef .tc r) :=
  after_of_writes_sub hostOps0_3 _ hostOps0_3_writes h

variable (hm : InOrder (m ((c.tc : Thread nD τ).loc main_arg1) : IVec S2x1024 32))
include hm

/-- The input projection, channels before tokens. -/
theorem xz_val (t : Fin 2048) (e : Fin 4096) :
    xz (F := Ideal) (m ((c.tc : Thread nD τ).loc main_arg1) : IVec S2x1024 32) (m ((c.tc : Thread nD τ).loc main_arg0) : FVec Ideal S1x2048x1024 .f32) (m ((c.tc : Thread nD τ).loc main_arg2) : FVec Ideal S2x4096x1024 .f32) (ix3 (0 : Fin 1) e t)
      = (args m c).xz t e := by
  unfold xz
  refine (tr_021 _ _ (0 : Fin 1) t e).trans ((rows_to_slab _ _ t e).trans ((mIn_apply hm _ _ t e).trans ?_))
  refine Finset.sum_congr rfl fun k _ => ?_
  exact congrArg (· * _) (slab_to_rows _ _ t k)

/-- The half that is convolved. -/
theorem R1_x (t d : Fin 2048) : (R1 m c (Proc.devRef .tc main_v48) : FVec Ideal S1x2048x2048 .f32) (ix3 (0 : Fin 1) d t) = (args m c).x t d :=
  (congrFun (read_v48 _) _).trans ((chans_apply _ _ t d ⟨d.val, by omega⟩ (by show d.val = 0 + d.val; omega)).trans (xz_val m c hm t _))

/-- The half that gates. -/
theorem R1_z (t d : Fin 2048) : (R1 m c (Proc.devRef .tc main_v49) : FVec Ideal S1x2048x2048 .f32) (ix3 (0 : Fin 1) d t) = (args m c).z t d :=
  (congrFun (read_v49 _) _).trans ((chans_apply _ _ t d ⟨2048 + d.val, by omega⟩ rfl).trans (xz_val m c hm t _))

/-- The padded half, read some tokens back. -/
theorem R2_back (s : ℕ) (hs : s ≤ 3) (t d : Fin 2048) (q : Fin 2051) (hq : q.val = t.val + (3 - s)) :
    (R2 m c (Proc.devRef .tc main_v50) : FVec Ideal S1x2048x2051 .f32) (ix3 (0 : Fin 1) d q) = (args m c).back s t d :=
  (congrFun (read_v50 _) _).trans (pad_apply _ (R1_x m c hm) _ (read_c7 _) s hs t d q hq)

/-- The convolution. -/
theorem R2_conv (t d : Fin 2048) :
    conv (F := Ideal) (R2 m c (Proc.devRef .tc main_v50) : FVec Ideal S1x2048x2051 .f32) (R2 m c (Proc.devRef .tc main_arg3) : FVec Ideal S2048x4 .f32) (R2 m c (Proc.devRef .tc main_arg4) : FVec Ideal S2048 .f32) (ix3 (0 : Fin 1) d t)
      = (args m c).conv t d :=
  conv_apply _ _ _ (R2_back m c hm)
    (fun d j => by rw [R2_keep m c main_arg3 (by decide +kernel), R1_keep m c main_arg3 (by decide +kernel)]; rfl)
    (fun d => by rw [R2_keep m c main_arg4 (by decide +kernel), R1_keep m c main_arg4 (by decide +kernel)]; rfl) t d

/-- The convolution, activated. -/
theorem R2_u (t d : Fin 2048) :
    rsilu (F := Ideal) (conv (F := Ideal) (R2 m c (Proc.devRef .tc main_v50) : FVec Ideal S1x2048x2051 .f32) (R2 m c (Proc.devRef .tc main_arg3) : FVec Ideal S2048x4 .f32) (R2 m c (Proc.devRef .tc main_arg4) : FVec Ideal S2048 .f32)) (ix3 (0 : Fin 1) d t)
      = (args m c).u t d := by
  rw [rsilu_apply, R2_conv m c hm]; rfl

/-- The projection of the activated convolution. -/
theorem R2_dbl (t : Fin 2048) (r : Fin 96) : dblOf (R2 m c) (ix2 t r) = (args m c).dbl t r := by
  have h1 : (R2 m c (Proc.devRef .tc main_arg1) : IVec S2x1024 32) = m ((c.tc : Thread nD τ).loc main_arg1) := by
    rw [R2_keep m c main_arg1 (by decide +kernel), R1_keep m c main_arg1 (by decide +kernel)]
  have h5 : (R2 m c (Proc.devRef .tc main_arg5) : FVec Ideal S2x96x2048 .f32) = m ((c.tc : Thread nD τ).loc main_arg5) := by
    rw [R2_keep m c main_arg5 (by decide +kernel), R1_keep m c main_arg5 (by decide +kernel)]
  refine (mX_apply (mm := (R2 m c (Proc.devRef .tc main_arg1) : IVec S2x1024 32)) (h1 ▸ hm) _ _ t r).trans ?_
  refine Finset.sum_congr rfl fun d _ => congrArg₂ (· * ·) ?_ (congrFun h5 _)
  exact (slab_to_rows _ _ t d).trans ((tr_021 _ _ (0 : Fin 1) d t).trans (R2_u m c hm t d))

/-- The activated convolution, after its stretch. -/
theorem R3_u (t d : Fin 2048) : (R3 m c (Proc.devRef .tc main_v89) : FVec Ideal S1x2048x2048 .f32) (ix3 (0 : Fin 1) d t) = (args m c).u t d :=
  (congrFun (read_v89 _) _).trans (R2_u m c hm t d)

/-- The state's input weights. -/
theorem R3_B (t : Fin 2048) (n : Fin 16) : (R3 m c (Proc.devRef .tc main_v138) : FVec Ideal S2048x16 .f32) (ix2 t n) = (args m c).B t n :=
  (congrFun (read_v138 _) _).trans ((cols_apply _ _ t n ⟨64 + n.val, by omega⟩ rfl).trans (R2_dbl m c hm t _))

/-- The state's output weights. -/
theorem R3_C (t : Fin 2048) (n : Fin 16) : (R3 m c (Proc.devRef .tc main_v139) : FVec Ideal S2048x16 .f32) (ix2 t n) = (args m c).C t n :=
  (congrFun (read_v139 _) _).trans ((cols_apply _ _ t n ⟨80 + n.val, by omega⟩ rfl).trans (R2_dbl m c hm t _))

/-- The step sizes before the softplus. -/
theorem R3_dtr (t d : Fin 2048) : (R3 m c (Proc.devRef .tc main_v194) : FVec Ideal S2048x2048 .f32) (ix2 t d) = (args m c).dtr t d := by
  have h1 : (R2 m c (Proc.devRef .tc main_arg1) : IVec S2x1024 32) = m ((c.tc : Thread nD τ).loc main_arg1) := by
    rw [R2_keep m c main_arg1 (by decide +kernel), R1_keep m c main_arg1 (by decide +kernel)]
  have h6 : (R2 m c (Proc.devRef .tc main_arg6) : FVec Ideal S2x2048x64 .f32) = m ((c.tc : Thread nD τ).loc main_arg6) := by
    rw [R2_keep m c main_arg6 (by decide +kernel), R1_keep m c main_arg6 (by decide +kernel)]
  have h7 : (R2 m c (Proc.devRef .tc main_arg7) : FVec Ideal S2x2048 .f32) = m ((c.tc : Thread nD τ).loc main_arg7) := by
    rw [R2_keep m c main_arg7 (by decide +kernel), R1_keep m c main_arg7 (by decide +kernel)]
  refine (congrFun (read_v194 _) _).trans ((mDt_apply (mm := (R2 m c (Proc.devRef .tc main_arg1) : IVec S2x1024 32)) (h1 ▸ hm) _ _ _ t d).trans ?_)
  refine congrArg₂ (· + ·) (Finset.sum_congr rfl fun r _ => congrArg₂ (· * ·) ?_ (congrFun h6 _)) (congrFun h7 _)
  exact (cols_apply _ _ t r ⟨r.val, by omega⟩ (by show r.val = 0 + r.val; omega)).trans (R2_dbl m c hm t _)

/-- The loop's entry. -/
theorem entry : At (args m c) 0 (entryContents preI m c) := by
  rw [entry_eq]
  constructor
  · constructor
    · intro t d
      refine (congrFun (read_dt _) _).trans ((tr_102 _ _ (0 : Fin 1) t d).trans ((rows_to_slab _ _ t d).trans ?_))
      refine (congrFun (read_v195 _) _).trans ((softplus_apply _ _).trans ?_)
      exact congrArg sp (R3_dtr m c hm t d)
    · intro t n
      refine (congrFun (read_B _) _).trans ((tr_102 _ _ (0 : Fin 1) t n).trans ((rows_to_slab _ _ t n).trans ?_))
      rw [R4_keep m c main_v138 (by decide +kernel)]
      exact R3_B m c hm t n
    · intro t n
      refine (congrFun (read_C _) _).trans ((tr_102 _ _ (0 : Fin 1) t n).trans ((rows_to_slab _ _ t n).trans ?_))
      rw [R4_keep m c main_v139 (by decide +kernel)]
      exact R3_C m c hm t n
    · intro t d
      refine (congrFun (read_u _) _).trans ((tr_102 _ _ (0 : Fin 1) t d).trans ((tr_021 _ _ (0 : Fin 1) d t).trans ?_))
      rw [R4_keep m c main_v89 (by decide +kernel)]
      exact R3_u m c hm t d
    · intro d n
      refine (congrFun (read_A _) _).trans ?_
      rw [R4_keep m c main_arg8 (by decide +kernel), R3_keep m c main_arg8 (by decide +kernel), R2_keep m c main_arg8 (by decide +kernel), R1_keep m c main_arg8 (by decide +kernel)]
      rfl
  · exact read_ctr _
  · intro d n
    exact (congrFun (read_h0 _) _).trans (zero_apply _ _)
  · intro t d h
    exact absurd h (Nat.not_lt_zero _)

/-- The gated rows, when the loop is left. -/
theorem exit_gated (t d : Fin 2048) :
    gated (F := Ideal) (atExit m c (Proc.devRef .tc main_v208_7) : FVec Ideal S2048x1x2048 .f32) (atExit m c (Proc.devRef .tc main_v199) : FVec Ideal S1x2048x2048 .f32)
      (atExit m c (Proc.devRef .tc main_arg9) : FVec Ideal S2048 .f32) (atExit m c (Proc.devRef .tc main_v49) : FVec Ideal S1x2048x2048 .f32) (ix3 (0 : Fin 1) t d)
      = (args m c).y t d := by
  refine (gated_apply _ _ _ _ t d).trans ?_
  refine congrArg₂ (fun p q : EReal => p * silu q) (congrArg₂ (fun p q : EReal => p + q) ?_ (congrArg₂ (fun p q : EReal => p * q) ?_ ?_)) ?_
  · exact (congrFun (exit_carried m c main_v208_7 (by decide)) _).trans (((entry m c hm).iter 2048 (Nat.le_refl _)).y t d t.isLt)
  · refine (congrFun ((exit_keep m c main_v199 (by decide +kernel)).trans ((congrFun (entry_eq m c) _).trans (read_v199 _))) _).trans ?_
    refine (tr_021 _ _ (0 : Fin 1) d t).trans ?_
    rw [R4_keep m c main_v89 (by decide +kernel)]
    exact R3_u m c hm t d
  · exact congrFun ((exit_keep m c main_arg9 (by decide +kernel)).trans (entry_keep m c main_arg9 (by decide +kernel))) _
  · refine (congrFun ((exit_keep m c main_v49 (by decide +kernel)).trans ((congrFun (entry_eq m c) _).trans
      (after_of_writes_sub hostOps0_4 _ hostOps0_4_writes (by decide +kernel)))) _).trans ?_
    rw [R4_keep m c main_v49 (by decide +kernel), R3_keep m c main_v49 (by decide +kernel), R2_keep m c main_v49 (by decide +kernel)]
    exact R1_z m c hm t d

/-- The reference's result. -/
theorem value (t : Fin 2048) (e : Fin 1024) :
    (after hostOps0_5 (atExit m c) (Proc.devRef .tc main_v269) : FVec Ideal S1x2048x1024 .f32) (ix3 (0 : Fin 1) t e) = (args m c).out t e := by
  have k1 := (exit_keep m c main_arg1 (by decide +kernel)).trans (entry_keep m c main_arg1 (by decide +kernel))
  have k10 := (exit_keep m c main_arg10 (by decide +kernel)).trans (entry_keep m c main_arg10 (by decide +kernel))
  have hy := exit_gated m c hm
  generalize atExit m c = X at k1 k10 hy ⊢
  refine (congrFun (read_out X) _).trans ?_
  refine (rows_to_slab _ _ t e).trans ?_
  refine (mOut_apply (mm := (X (Proc.devRef .tc main_arg1) : IVec S2x1024 32)) (by rw [k1]; exact hm) _ _ t e).trans ?_
  refine Finset.sum_congr rfl fun d _ => congrArg₂ (· * ·) ?_ (congrFun k10 _)
  exact (slab_to_rows _ _ t d).trans (hy t d)

end Run
end Cert.ReferenceIdeal.Own

end
-- ==== Proof.Equal.lean ====
/-
The whole claim of equal results: the precondition read as the index table in order, the two results at every entry, and
the two runs.
-/
module

public import proofs.«01_k».proof.Proof.Frames
public import proofs.«01_k».proof.Proof.KVal2
public import proofs.«01_k».proof.Proof.RefEntry

@[expose] public section

set_option maxRecDepth 16384
set_option maxHeartbeats 4000000
set_option Elab.async false

noncomputable section

namespace Cert.Proof

open Idealize.ShloMosaic Idealize.ShloMosaic.TcCoe Idealize.SL.Sem

/-- The one shape relation the precondition's operations take. -/
theorem preFacts : Cert.Pre_masks_in_order.Facts := ⟨by decide⟩

attribute [local instance] preFacts

/-- A table the precondition holds of counts the tokens in order. -/
theorem inOrder_of (a0 : FVec Ideal Cert.Pre_masks_in_order.S1x2048x1024 .f32) (mm : IVec Cert.Pre_masks_in_order.S2x1024 32)
    (a2 : FVec Ideal Cert.Pre_masks_in_order.S2x4096x1024 .f32) (a3 : FVec Ideal Cert.Pre_masks_in_order.S2048x4 .f32)
    (a4 : FVec Ideal Cert.Pre_masks_in_order.S2048 .f32) (a5 : FVec Ideal Cert.Pre_masks_in_order.S2x96x2048 .f32)
    (a6 : FVec Ideal Cert.Pre_masks_in_order.S2x2048x64 .f32) (a7 : FVec Ideal Cert.Pre_masks_in_order.S2x2048 .f32)
    (a8 : FVec Ideal Cert.Pre_masks_in_order.S2048x16 .f32) (a9 : FVec Ideal Cert.Pre_masks_in_order.S2048 .f32)
    (a10 : FVec Ideal Cert.Pre_masks_in_order.S2x1024x2048 .f32)
    (h : Cert.Pre_masks_in_order.fn (F := Ideal) a0 mm a2 a3 a4 a5 a6 a7 a8 a9 a10 = fun _ => 1#1) : Cert.ReferenceIdeal.Own.InOrder mm := by
  intro a k
  have e : IntOp.cmpi .eq (mm (ValueIdx.ix2 a k)) (BitVec.ofNat 32 a.val * 1024#32 + BitVec.ofNat 32 k.val) = 1#1 := congrFun h (ValueIdx.ix2 a k)
  rw [StableHlo.Predicate.cmpi_eq_iff.mp e]
  refine BitVec.eq_of_toNat_eq ?_
  simp only [BitVec.toNat_add, BitVec.toNat_mul, BitVec.toNat_ofNat]
  omega

/-- The two programs' arguments, by coordinates, are the same when the arrays are. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    : Cert.ReferenceIdeal.Own.args m' c = Cert.KernelIdeal.Own.args m c := by
  unfold Cert.ReferenceIdeal.Own.args Cert.KernelIdeal.Own.args
  rw [h0, h2, h3, h4, h5, h6, h7, h8, h9, h10]

/-- Equal results, from equal arguments with the index table in order. -/
theorem equal : Cert.algebraic_KernelIdeal_ReferenceIdeal_pre_masks_in_order (hKernelIdeal := Cert.KernelIdeal.Gen.facts)
    (hReferenceIdeal := Cert.ReferenceIdeal.Gen.facts) (hPre_masks_in_order := preFacts) := by
  intro m g m' g' hpre hag
  refine ⟨fun c => Cert.KernelIdeal.Own.W7 m c (Proc.devRef .tc Cert.KernelIdeal.main_v21), ?_, ?_⟩
  · refine (θ_run _ _ _).mono (fun _ h c => ?_) (Cert.KernelIdeal.Own.run (F := Ideal) m g)
    obtain ⟨ha, hv⟩ := h.1 c
    exact ⟨hv, ha Cert.KernelIdeal.main_arg0 (by decide), ha Cert.KernelIdeal.main_arg1 (by decide), ha Cert.KernelIdeal.main_arg2 (by decide), ha Cert.KernelIdeal.main_arg3 (by decide), ha Cert.KernelIdeal.main_arg4 (by decide), ha Cert.KernelIdeal.main_arg5 (by decide), ha Cert.KernelIdeal.main_arg6 (by decide), ha Cert.KernelIdeal.main_arg7 (by decide), ha Cert.KernelIdeal.main_arg8 (by decide), ha Cert.KernelIdeal.main_arg9 (by decide), ha Cert.KernelIdeal.main_arg10 (by decide)⟩
  · refine (θ_run _ _ _).mono (fun r h c => ⟨(h c).1.trans ?_, (h c).2⟩) (Cert.ReferenceIdeal.Own.run (F := Ideal) m' g')
    obtain ⟨h0, h1, h2, h3, h4, h5, h6, h7, h8, h9, h10⟩ := hag c
    have hm : Cert.ReferenceIdeal.Own.InOrder (m' ((c.tc : Thread Cert.ReferenceIdeal.nD Cert.ReferenceIdeal.τ).loc Cert.ReferenceIdeal.main_arg1)) := by
      rw [h1]; exact inOrder_of _ _ _ _ _ _ _ _ _ _ _ (hpre c)
    have key : ∀ (t : Fin 2048) (e : Fin 1024), _ = _ := fun t e =>
      (Cert.ReferenceIdeal.Own.value m' c hm t e).trans
        ((congrArg (fun a : Cert.Own.Args => a.out t e) (args_eq m m' c h0 h2 h3 h4 h5 h6 h7 h8 h9 h10)).trans (Cert.KernelIdeal.Own.value m c t e).symm)
    funext i
    have hi : i = ValueIdx.ix3 (0 : Fin 1) (i 1) (i 2) := by
      funext b
      fin_cases b
      · exact Fin.ext (Nat.lt_one_iff.mp (i 0).isLt)
      · rfl
      · rfl
    rw [hi]
    exact key (i 1) (i 2)

end Cert.Proof

end
-- ==== Proof.lean ====
/- The claim, from its parts. -/
module

public import proofs.«01_k».proof.Proof.Equal

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts, preFacts,
  quiescentK, quiescentKI, fun m g _ => quiescentKI m g trivial, quiescentRI, fun m g _ => quiescentRI m g trivial, trivial, equal⟩

end Cert.Proof

end
